-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v57_0)) (v1 : (c : Dev Cert.Kernel2Ideal.nD) → Buf (Elt Ideal) ((c.tc : Thread Cert.Kernel2Ideal.nD Cert.Kernel2Ideal.τ).loc Cert.Kernel2Ideal.main_v57_1)) (v2 : (c : Dev Cert.Kernel2Ideal.nD) → Buf (Elt Ideal) ((c.tc : Thread Cert.Kernel2Ideal.nD Cert.Kernel2Ideal.τ).loc Cert.Kernel2Ideal.main_v57_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57_0) = v0 c
          ∧ r.2.mem ((c.tc : Thread Cert.Kernel2Ideal.nD Cert.Kernel2Ideal.τ).loc Cert.Kernel2Ideal.main_v57_1) = v1 c
          ∧ r.2.mem ((c.tc : Thread Cert.Kernel2Ideal.nD Cert.Kernel2Ideal.τ).loc Cert.Kernel2Ideal.main_v57_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v147) = v0 c
          ∧ r.2.mem ((c.tc : Thread Cert.Reference2Ideal.nD Cert.Reference2Ideal.τ).loc Cert.Reference2Ideal.main_v148) = v1 c
          ∧ r.2.mem ((c.tc : Thread Cert.Reference2Ideal.nD Cert.Reference2Ideal.τ).loc Cert.Reference2Ideal.main_v150) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x4x2x8192x64 : Shape := ⟨5, ![2, 4, 2, 8192, 64]⟩
abbrev S2x4x2x8448x64 : Shape := ⟨5, ![2, 4, 2, 8448, 64]⟩
abbrev S2x4x8448x128 : Shape := ⟨4, ![2, 4, 8448, 128]⟩
abbrev S1x64 : Shape := ⟨2, ![1, 64]⟩
abbrev S1x128 : Shape := ⟨2, ![1, 128]⟩
abbrev S_ : Shape := ⟨0, ![]⟩

class Facts : Prop where
  bcast_S_S2x4x2x8192x64 : S_.BroadcastsInDim S2x4x2x8192x64 (![] : Fin 0 → Fin S2x4x2x8192x64.rank)
  bcast_S_S2x4x2x8448x64 : S_.BroadcastsInDim S2x4x2x8448x64 (![] : Fin 0 → Fin S2x4x2x8448x64.rank)
  bcast_S_S2x4x8448x128 : S_.BroadcastsInDim S2x4x8448x128 (![] : Fin 0 → Fin S2x4x8448x128.rank)
  bcast_S_S1x64 : S_.BroadcastsInDim S1x64 (![] : Fin 0 → Fin S1x64.rank)

variable [Facts]

def fn_part1 {F : FTy → Type} [FloatOps F] (main_arg6 : FVec F S1x64 .f32) (main_v2 : IVec S2x4x2x8192x64 1) (main_v5 : IVec S2x4x2x8448x64 1) (main_v8 : IVec S2x4x8448x128 1) (main_v11 : IVec S1x64 1) (main_v14 : IVec S1x64 1) (main_v17 : IVec S1x64 1) : IVec S2x4x2x8192x64 1 × IVec S2x4x2x8448x64 1 × IVec S2x4x8448x128 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S2x4x2x8192x64 .f32) (main_arg1 : FVec F S2x4x2x8448x64 .f32) (main_arg2 : FVec F S2x4x8448x128 .f32) (main_arg3 : FVec F S1x64 .f32) (main_arg4 : FVec F S1x64 .f32) (main_arg5 : FVec F S1x64 .f32) (main_arg6 : FVec F S1x64 .f32) (main_arg7 : FVec F S1x128 .f32) : IVec S2x4x2x8192x64 1 × IVec S2x4x2x8448x64 1 × IVec S2x4x8448x128 1 × IVec S1x64 1 × IVec S1x64 1 × IVec S1x64 1 × IVec S1x64 1 :=
  let main_v0 : FVec F S2x4x2x8192x64 .f32 := Host.absf main_arg0
  let main_cst : FVec F S_ .f32 := constant S_ .f32 0x7F800000#32
  let main_v1 : FVec F S2x4x2x8192x64 .f32 := broadcastInDim S2x4x2x8192x64 ![] bcast_S_S2x4x2x8192x64 main_cst
  let main_v2 : IVec S2x4x2x8192x64 1 := cmpf .olt main_v0 main_v1
  let main_v3 : FVec F S2x4x2x8448x64 .f32 := Host.absf main_arg1
  let main_cst_0 : FVec F S_ .f32 := constant S_ .f32 0x7F800000#32
  let main_v4 : FVec F S2x4x2x8448x64 .f32 := broadcastInDim S2x4x2x8448x64 ![] bcast_S_S2x4x2x8448x64 main_cst_0
  let main_v5 : IVec S2x4x2x8448x64 1 := cmpf .olt main_v3 main_v4
  let main_v6 : FVec F S2x4x8448x128 .f32 := Host.absf main_arg2
  let main_cst_1 : FVec F S_ .f32 := constant S_ .f32 0x7F800000#32
  let main_v7 : FVec F S2x4x8448x128 .f32 := broadcastInDim S2x4x8448x128 ![] bcast_S_S2x4x8448x128 main_cst_1
  let main_v8 : IVec S2x4x8448x128 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Kernel.lean ====
abbrev S2x4x2x8192x64 : Shape := ⟨5, ![2, 4, 2, 8192, 64]⟩
abbrev S2x4x2x8448x64 : Shape := ⟨5, ![2, 4, 2, 8448, 64]⟩
abbrev S2x4x8448x128 : Shape := ⟨4, ![2, 4, 8448, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S1x1 : Shape := ⟨2, ![1, 1]⟩
abbrev S2x4x2x256x64 : Shape := ⟨5, ![2, 4, 2, 256, 64]⟩
abbrev S2x4x8448x2x64 : Shape := ⟨5, ![2, 4, 8448, 2, 64]⟩
abbrev S2x4x8192x128 : Shape := ⟨4, ![2, 4, 8192, 128]⟩
abbrev S2x4x256x128 : Shape := ⟨4, ![2, 4, 256, 128]⟩
abbrev S2x12x8448x128 : Shape := ⟨4, ![2, 12, 8448, 128]⟩
abbrev S128 : Shape := ⟨1, ![128]⟩
abbrev S2x8192x512 : Shape := ⟨3, ![2, 8192, 512]⟩
abbrev S1x1x1024x128 : Shape := ⟨4, ![1, 1, 1024, 128]⟩
abbrev S1x1x8448x128 : Shape := ⟨4, ![1, 1, 8448, 128]⟩
abbrev S1x1024x128 : Shape := ⟨3, ![1, 1024, 128]⟩
abbrev S2048x128 : Shape := ⟨2, ![2048, 128]⟩
abbrev S2048x768 : Shape := ⟨2, ![2048, 768]⟩
abbrev S2048x256 : Shape := ⟨2, ![2048, 256]⟩
abbrev S1024x128 : Shape := ⟨2, ![1024, 128]⟩
abbrev S1x1x768x128 : Shape := ⟨4, ![1, 1, 768, 128]⟩
abbrev S768x128 : Shape := ⟨2, ![768, 128]⟩
abbrev S768x256 : Shape := ⟨2, ![768, 256]⟩
abbrev S2048 : Shape := ⟨1, ![2048]⟩
abbrev S2048x1 : Shape := ⟨2, ![2048, 1]⟩
abbrev S128x128 : Shape := ⟨2, ![128, 128]⟩
abbrev S1024x1 : Shape := ⟨2, ![1024, 1]⟩
abbrev S1024 : Shape := ⟨1, ![1024]⟩

abbrev nBuf : Space → Nat
  | .hbm => 48
  | .vmem => 16
  | .smem => 1
  | _ => 0

abbrev bufTy : (tb : Table) → Fin (tcTables nBuf tb) → BufTy
  | .hbm, ⟨0, _⟩ => ⟨S2x4x2x8192x64, .f32⟩
  | .hbm, ⟨1, _⟩ => ⟨S2x4x2x8448x64, .f32⟩
  | .hbm, ⟨2, _⟩ => ⟨S2x4x8448x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x4x2x8192x64, .f32⟩
  | .hbm, ⟨29, _⟩ => ⟨S2x4x2x8192x64, .f32⟩
  | .hbm, ⟨30, _⟩ => ⟨S_, .f32⟩
  | .hbm, ⟨31, _⟩ => ⟨S2x4x2x256x64, .f32⟩
  | .hbm, ⟨32, _⟩ => ⟨S2x4x2x8448x64, .f32⟩
  | .hbm, ⟨33, _⟩ => ⟨S2x4x8448x2x64, .f32⟩
  | .hbm, ⟨34, _⟩ => ⟨S2x4x8448x128, .f32⟩
  | .hbm, ⟨35, _⟩ => ⟨S2x4x2x8192x64, .f32⟩
  | .hbm, ⟨36, _⟩ => ⟨S2x4x2x256x64, .f32⟩
  | .hbm, ⟨37, _⟩ => ⟨S2x4x2x8448x64, .f32⟩
  | .hbm, ⟨38, _⟩ => ⟨S2x4x8448x2x64, .f32⟩
  | .hbm, ⟨39, _⟩ => ⟨S2x4x8448x128, .f32⟩
  | .hbm, ⟨40, _⟩ => ⟨S2x4x8192x128, .f32⟩
  | .hbm, ⟨41, _⟩ => ⟨S2x4x256x128, .f32⟩
  | .hbm, ⟨42, _⟩ => ⟨S2x4x8448x128, .f32⟩
  | .hbm, ⟨43, _⟩ => ⟨S2x12x8448x128, .f32⟩
  | .hbm, ⟨44, _⟩ => ⟨S2x12x8448x128, .bf16⟩
  | .hbm, ⟨45, _⟩ => ⟨S128, .f32⟩
  | .hbm, ⟨46, _⟩ => ⟨S1x128, .f32⟩
  | .hbm, ⟨47, _⟩ => ⟨S2x8192x512, .bf16⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x128, .f32⟩
  | .local _ .vmem, ⟨7, _⟩ => ⟨S1x1024x128, .bf16⟩
  | .local _ .vmem, ⟨8, _⟩ => ⟨S1x1024x128, .bf16⟩
  | .local _ .vmem, ⟨9, _⟩ => ⟨S2048x128, .bf16⟩
  | .local _ .vmem, ⟨10, _⟩ => ⟨S2048x768, .f32⟩
  | .local _ .vmem, ⟨11, _⟩ => ⟨S2048x768, .f32⟩
  | .local _ .vmem, ⟨12, _⟩ => ⟨S2048x768, .bf16⟩
  | .local _ .vmem, ⟨13, _⟩ => ⟨S2048x768, .bf16⟩
  | .local _ .vmem, ⟨14, _⟩ => ⟨S2048x128, .f32⟩
  | .local _ .vmem, ⟨15, _⟩ => ⟨S2048x256, .f32⟩
  | .local _ .smem, ⟨0, _⟩ => ⟨S1x1, .f32⟩
  | _, _ => ⟨S2x4x2x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32 : BitVec 32 := 0#32
  c0_i32
@[reducible] def k0_t1_loop : Scf.Loop 32 :=
  let c0_i32_21 : BitVec 32 := 0#32
  let c5_i32 : BitVec 32 := 5#32
  let v33 : BitVec 32 := Scalar.addi c0_i32_21 c5_i32
  let c1_i32 : BitVec 32 := 1#32
  ⟨c0_i32_21, v33, c1_i32⟩
def k0_mult2 (k0_t1 : Fin k0_t1_loop.trips) : BitVec 32 :=
  let c2_i32 : BitVec 32 := 2#32
  let c0_i32_21 : BitVec 32 := 0#32
  let c1_i32 : BitVec 32 := 1#32
  let arg16 : BitVec 32 := Scf.iv c0_i32_21 c1_i32 k0_t1
  let v785 : BitVec 32 := Scalar.muli c2_i32 arg16
  let c1_i32_459 : BitVec 32 := 1#32
  let v786 : BitVec 32 := Scalar.addi v785 c1_i32_459
  let c768_i32 : BitVec 32 := 768#32
  let v787 : BitVec 32 := Scalar.muli v786 c768_i32
  v787
def k0_off1 (k0_t1 : Fin k0_t1_loop.trips) (c1_i32_459 : BitVec 32) : Fin 4 → Nat :=
  let c0_460 : Index := 0#32
  let c0_461 : Index := 0#32
  let c2_i32 : BitVec 32 := 2#32
  let c0_i32_21 : BitVec 32 := 0#32
  let c1_i32 : BitVec 32 := 1#32
  let arg16 : BitVec 32 := Scf.iv c0_i32_21 c1_i32 k0_t1
  let v785 : BitVec 32 := Scalar.muli c2_i32 arg16
  let v786 : BitVec 32 := Scalar.addi v785 c1_i32_459
  let c768_i32 : BitVec 32 := 768#32
  let v787 : BitVec 32 := Scalar.muli v786 c768_i32
  let v788 : BitVec 32 := v787
  let v789 : Index := Scalar.indexCast v788
  let c0_462 : Index := 0#32
  ![0, 0, v789.toNat, 0]
def k0_mult3 (k0_t1 : Fin k0_t1_loop.trips) : BitVec 32 :=
  let c2_i32_468 : BitVec 32 := 2#32
  let c0_i32_21 : BitVec 32 := 0#32
  let c1_i32 : BitVec 32 := 1#32
  let arg16 : BitVec 32 := Scf.iv c0_i32_21 c1_i32 k0_t1
  let v797 : BitVec 32 := Scalar.muli c2_i32_468 arg16
  let c768_i32_469 : BitVec 32 := 768#32
  let v798 : BitVec 32 := Scalar.muli v797 c768_i32_469
  v798
def k0_off2 (k0_t1 : Fin k0_t1_loop.trips) : Fin 4 → Nat :=
  let c0_470 : Index := 0#32
  let c0_471 : Index := 0#32
  let c2_i32_468 : BitVec 32 := 2#32
  let c0_i32_21 : BitVec 32 := 0#32
  let c1_i32 : BitVec 32 := 1#32
  let arg16 : BitVec 32 := Scf.iv c0_i32_21 c1_i32 k0_t1
  let v797 : BitVec 32 := Scalar.muli c2_i32_468 arg16
  let c768_i32_469 : BitVec 32 := 768#32
  let v798 : BitVec 32 := Scalar.muli v797 c768_i32_469
  let v799 : BitVec 32 := v798
  let v800 : Index := Scalar.indexCast v799
  let c0_472 : Index := 0#32
  ![0, 0, v800.toNat, 0]
def k0_mult4 (k0_t1 : Fin k0_t1_loop.trips) : BitVec 32 :=
  let c2_i32_904 : BitVec 32 := 2#32
  let c0_i32_21 : BitVec 32 := 0#32
  let c1_i32 : BitVec 32 := 1#32
  let arg16 : BitVec 32 := Scf.iv c0_i32_21 c1_i32 k0_t1
  let v1514 : BitVec 32 := Scalar.muli c2_i32_904 arg16
  let c2_i32_905 : BitVec 32 := 2#32
  let v1515 : BitVec 32 := Scalar.addi v1514 c2_i32_905
  let c768_i32_906 : BitVec 32 := 768#32
  let v1516 : BitVec 32 := Scalar.muli v1515 c768_i32_906
  v1516
def k0_mult5 (k0_t1 : Fin k0_t1_loop.trips) : BitVec 32 :=
  let c2_i32_915 : BitVec 32 := 2#32
  let c0_i32_21 : BitVec 32 := 0#32
  let c1_i32 : BitVec 32 := 1#32
  let arg16 : BitVec 32 := Scf.iv c0_i32_21 c1_i32 k0_t1
  let v1526 : BitVec 32 := Scalar.muli c2_i32_915 arg16
  let c1_i32_916 : BitVec 32 := 1#32
  let v1527 : BitVec 32 := Scalar.addi v1526 c1_i32_916
  let c768_i32_917 : BitVec 32 := 768#32
  let v1528 : BitVec 32 := Scalar.muli v1527 c768_i32_917
  v1528
def k0_mult6 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x4x2x8192x64 : Shape := ⟨5, ![2, 4, 2, 8192, 64]⟩
abbrev S2x4x2x8448x64 : Shape := ⟨5, ![2, 4, 2, 8448, 64]⟩
abbrev S2x4x8448x128 : Shape := ⟨4, ![2, 4, 8448, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x8192x128 : Shape := ⟨4, ![2, 4, 8192, 128]⟩
abbrev S128 : Shape := ⟨1, ![128]⟩
abbrev S2x4x8192 : Shape := ⟨3, ![2, 4, 8192]⟩
abbrev S2x4x8192x1 : Shape := ⟨4, ![2, 4, 8192, 1]⟩
abbrev S1x1x1x128 : Shape := ⟨4, ![1, 1, 1, 128]⟩
abbrev S2x8192x4x128 : Shape := ⟨4, ![2, 8192, 4, 128]⟩
abbrev S2x8192x512 : Shape := ⟨3, ![2, 8192, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x4x2x8192x64, .f32⟩
  | .hbm, ⟨1, _⟩ => ⟨S2x4x2x8448x64, .f32⟩
  | .hbm, ⟨2, _⟩ => ⟨S2x4x8448x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4x2x8192x8448, .f32⟩
  | .hbm, ⟨24, _⟩ => ⟨S_, .f32⟩
  | .hbm, ⟨25, _⟩ => ⟨S2x4x2x8192x8448, .f32⟩
  | .hbm, ⟨26, _⟩ => ⟨S2x4x2x8192x8448, .f32⟩
  | .hbm, ⟨27, _⟩ => ⟨S_, .f32⟩
  | .hbm, ⟨28, _⟩ => ⟨S2x4x2x8192, .f32⟩
  | .hbm, ⟨29, _⟩ => ⟨S_, .f32⟩
  | .hbm, ⟨30, _⟩ => ⟨S2x4x2x8192, .f32⟩
  | .hbm, ⟨31, _⟩ => ⟨S2x4x2x8192, .f32⟩
  | .hbm, ⟨32, _⟩ => ⟨S2x4x2x8192x1, .f32⟩
  | .hbm, ⟨33, _⟩ => ⟨S2x4x2x8192x8448, .f32⟩
  | .hbm, ⟨34, _⟩ => ⟨S2x4x2x8192x8448, .f32⟩
  | .hbm, ⟨35, _⟩ => ⟨S2x4x2x8192x8448, .f32⟩
  | .hbm, ⟨36, _⟩ => ⟨S_, .f32⟩
  | .hbm, ⟨37, _⟩ => ⟨S2x4x2x8192, .f32⟩
  | .hbm, ⟨38, _⟩ => ⟨S2x4x2x8192x1, .f32⟩
  | .hbm, ⟨39, _⟩ => ⟨S2x4x2x8192x8448, .f32⟩
  | .hbm, ⟨40, _⟩ => ⟨S2x4x2x8192x8448, .f32⟩
  | .hbm, ⟨41, _⟩ => ⟨S2x4x1x8192x8448, .f32⟩
  | .hbm, ⟨42, _⟩ => ⟨S2x4x8192x8448, .f32⟩
  | .hbm, ⟨43, _⟩ => ⟨S2x4x1x8192x8448, .f32⟩
  | .hbm, ⟨44, _⟩ => ⟨S2x4x8192x8448, .f32⟩
  | .hbm, ⟨45, _⟩ => ⟨S2x4x8192x8448, .f32⟩
  | .hbm, ⟨46, _⟩ => ⟨S2x4x8192x8448, .f32⟩
  | .hbm, ⟨47, _⟩ => ⟨S2x4x8192x8448, .f32⟩
  | .hbm, ⟨48, _⟩ => ⟨S2x4x8192x128, .f32⟩
  | .hbm, ⟨49, _⟩ => ⟨S128, .f32⟩
  | .hbm, ⟨50, _⟩ => ⟨S2x4x8192x128, .f32⟩
  | .hbm, ⟨51, _⟩ => ⟨S_, .f32⟩
  | .hbm, ⟨52, _⟩ => ⟨S2x4x8192, .f32⟩
  | .hbm, ⟨53, _⟩ => ⟨S2x4x8192x1, .f32⟩
  | .hbm, ⟨54, _⟩ => ⟨S_, .f32⟩
  | .hbm, ⟨55, _⟩ => ⟨S2x4x8192x1, .f32⟩
  | .hbm, ⟨56, _⟩ => ⟨S2x4x8192x1, .f32⟩
  | .hbm, ⟨57, _⟩ => ⟨S_, .f32⟩
  | .hbm, ⟨58, _⟩ => ⟨S2x4x8192x1, .f32⟩
  | .hbm, ⟨59, _⟩ => ⟨S2x4x8192x1, .f32⟩
  | .hbm, ⟨60, _⟩ => ⟨S2x4x8192x1, .f32⟩
  | .hbm, ⟨61, _⟩ => ⟨S2x4x8192x128, .f32⟩
  | .hbm, ⟨62, _⟩ => ⟨S2x4x8192x128, .f32⟩
  | .hbm, ⟨63, _⟩ => ⟨S1x1x1x128, .f32⟩
  | .hbm, ⟨64, _⟩ => ⟨S2x4x8192x128, .f32⟩
  | .hbm, ⟨65, _⟩ => ⟨S2x4x8192x128, .f32⟩
  | .hbm, ⟨66, _⟩ => ⟨S_, .f32⟩
  | .hbm, ⟨67, _⟩ => ⟨S2x4x8192x128, .f32⟩
  | .hbm, ⟨68, _⟩ => ⟨S2x4x8192x128, .f32⟩
  | .hbm, ⟨69, _⟩ => ⟨S2x8192x4x128, .f32⟩
  | .hbm, ⟨70, _⟩ => ⟨S2x8192x512, .f32⟩
  | .hbm, ⟨71, _⟩ => ⟨S2x8192x512, .bf16⟩
  | _, _ => ⟨S2x4x2x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x256x1024 : Shape := ⟨3, ![2, 256, 1024]⟩
abbrev S8x6144 : Shape := ⟨2, ![8, 6144]⟩
abbrev S1x1024 : Shape := ⟨2, ![1, 1024]⟩
abbrev S1x1024x4096 : Shape := ⟨3, ![1, 1024, 4096]⟩
abbrev S1024x4096 : Shape := ⟨2, ![1024, 4096]⟩
abbrev S1024x512 : Shape := ⟨2, ![1024, 512]⟩
abbrev S_ : Shape := ⟨0, ![]⟩
abbrev S1024x3584 : Shape := ⟨2, ![1024, 3584]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S256x64 : Shape := ⟨2, ![256, 64]⟩
abbrev S8448x64 : Shape := ⟨2, ![8448, 64]⟩
abbrev S64 : Shape := ⟨1, ![64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S1x64 : Shape := ⟨2, ![1, 64]⟩
abbrev S1024 : Shape := ⟨1, ![1024]⟩
abbrev S2x12x8448x128 : Shape := ⟨4, ![2, 12, 8448, 128]⟩
abbrev S2x8448x1024 : Shape := ⟨3, ![2, 8448, 1024]⟩
abbrev S2x8448x1536 : Shape := ⟨3, ![2, 8448, 1536]⟩
abbrev S1x256x1024 : Shape := ⟨3, ![1, 256, 1024]⟩
abbrev S256x128 : Shape := ⟨2, ![256, 128]⟩
abbrev S1x12x256x128 : Shape := ⟨4, ![1, 12, 256, 128]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S1x1x256x128 : Shape := ⟨4, ![1, 1, 256, 128]⟩
abbrev S256x1536 : Shape := ⟨2, ![256, 1536]⟩

abbrev nBuf : Space → Nat
  | .hbm => 137
  | .vmem => 17
  | .smem => 0
  | _ => 0

abbrev hbmTy0_0 (i : Nat) : BufTy := match i % 128 with
  | 0 => ⟨S2x8192x1024, .f32⟩
  | 1 => ⟨S2x256x1024, .f32⟩
  | 2 => ⟨S8x6144, .f32⟩
  | 3 => ⟨S1x1024, .f32⟩
  | 4 => ⟨S1x1024x4096, .f32⟩
  | 5 => ⟨S1024x4096, .f32⟩
  | 6 => ⟨S1024x512, .f32⟩
  | 7 => ⟨S_, .f32⟩
  | 8 => ⟨S1024x512, .f32⟩
  | 9 => ⟨S1024x512, .f32⟩
  | 10 => ⟨S1024x3584, .f32⟩
  | 11 => ⟨S1024x4096, .f32⟩
  | 12 => ⟨S1024x4096, .bf16⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S8192, .i32⟩
  | 30 => ⟨S_, .i32⟩
  | 31 => ⟨S_, .i32⟩
  | 32 => ⟨S8192, .i32⟩
  | 33 => ⟨S8192, .i32⟩
  | 34 => ⟨S8192, .i32⟩
  | 35 => ⟨S_, .i32⟩
  | 36 => ⟨S8192, .i32⟩
  | 37 => ⟨S8192, .i1⟩
  | 38 => ⟨S8192, .i32⟩
  | 39 => ⟨S8192, .i32⟩
  | 40 => ⟨S_, .i32⟩
  | 41 => ⟨S8192, .i32⟩
  | 42 => ⟨S8192, .i1⟩
  | 43 => ⟨S8192, .i1⟩
  | 44 => ⟨S_, .i32⟩
  | 45 => ⟨S8192, .i32⟩
  | 46 => ⟨S8192, .i32⟩
  | 47 => ⟨S8192, .i32⟩
  | 48 => ⟨S8192, .f32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i1⟩
  | 60 => ⟨S_, .i32⟩
  | 61 => ⟨S8192, .i32⟩
  | 62 => ⟨S8192, .i1⟩
  | 63 => ⟨S_, .i32⟩
  | 64 => ⟨S_, .i1⟩
  | 65 => ⟨S8192, .i1⟩
  | 66 => ⟨S8192, .i1⟩
  | 67 => ⟨S8192, .i1⟩
  | 68 => ⟨S8192, .i32⟩
  | 69 => ⟨S8192, .i32⟩
  | 70 => ⟨S8192, .i32⟩
  | 71 => ⟨S8192, .f32⟩
  | 72 => ⟨S8192x1, .f32⟩
  | 73 => ⟨S1x16, .f32⟩
  | 74 => ⟨S8192x16, .f32⟩
  | 75 => ⟨S8192x16, .f32⟩
  | 76 => ⟨S8192x16, .f32⟩
  | 77 => ⟨S8192x1, .f32⟩
  | 78 => ⟨S1x16, .f32⟩
  | 79 => ⟨S8192x16, .f32⟩
  | 80 => ⟨S8192x16, .f32⟩
  | 81 => ⟨S8192x16, .f32⟩
  | 82 => ⟨S8192x64, .f32⟩
  | 83 => ⟨S8192x64, .f32⟩
  | 84 => ⟨S_, .f32⟩
  | 85 => ⟨S256x64, .f32⟩
  | 86 => ⟨S8448x64, .f32⟩
  | 87 => ⟨S8192x64, .f32⟩
  | 88 => ⟨S_, .f32⟩
  | 89 => ⟨S256x64, .f32⟩
  | 90 => ⟨S8448x64, .f32⟩
  | 91 => ⟨S64, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S64, .i32⟩
  | 99 => ⟨S64, .i32⟩
  | 100 => ⟨S_, .i32⟩
  | 101 => ⟨S64, .i32⟩
  | 102 => ⟨S64, .i1⟩
  | 103 => ⟨S_, .i32⟩
  | 104 => ⟨S64, .i32⟩
  | 105 => ⟨S64, .i1⟩
  | 106 => ⟨S_, .i32⟩
  | 107 => ⟨S_, .i1⟩
  | 108 => ⟨S64, .i1⟩
  | 109 => ⟨S64, .i1⟩
  | 110 => ⟨S64, .i1⟩
  | 111 => ⟨S64, .i32⟩
  | 112 => ⟨S64, .i32⟩
  | 113 => ⟨S64, .i32⟩
  | 114 => ⟨S_, .i32⟩
  | 115 => ⟨S64, .i32⟩
  | 116 => ⟨S64, .i1⟩
  | 117 => ⟨S_, .f32⟩
  | 118 => ⟨S_, .f32⟩
  | 119 => ⟨S64, .f32⟩
  | 120 => ⟨S64, .f32⟩
  | 121 => ⟨S64, .f32⟩
  | 122 => ⟨S64, .f32⟩
  | 123 => ⟨S1x8448x1x64, .f32⟩
  | 124 => ⟨S1x8448x2x64, .f32⟩
  | 125 => ⟨S8448x128, .f32⟩
  | 126 => ⟨S1x64, .f32⟩
  | 127 => ⟨S8448x64, .f32⟩
  | _ => ⟨S2x8192x1024, .f32⟩

abbrev hbmTy0_1 (i : Nat) : BufTy := match i % 128 with
  | 0 => ⟨S8448x64, .f32⟩
  | 1 => ⟨S1x8448x1x64, .f32⟩
  | 2 => ⟨S1x8448x2x64, .f32⟩
  | 3 => ⟨S8448x128, .f32⟩
  | 4 => ⟨S1024, .f32⟩
  | 5 => ⟨S1x1024, .f32⟩
  | 6 => ⟨S2x12x8448x128, .bf16⟩
  | 7 => ⟨S2x8448x1024, .f32⟩
  | 8 => ⟨S2x8448x1536, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S8x6144, .f32⟩
  | .local _ .vmem, ⟨5, _⟩ => ⟨S1x1024, .f32⟩
  | .local _ .vmem, ⟨6, _⟩ => ⟨S1024x4096, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x12x256x128, .bf16⟩
  | .local _ .vmem, ⟨12, _⟩ => ⟨S1x12x256x128, .bf16⟩
  | .local _ .vmem, ⟨13, _⟩ => ⟨S1x256x1024, .f32⟩
  | .local _ .vmem, ⟨14, _⟩ => ⟨S1x256x1024, .f32⟩
  | .local _ .vmem, ⟨15, _⟩ => ⟨S1x256x1536, .bf16⟩
  | .local _ .vmem, ⟨16, _⟩ => ⟨S1x256x1536, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_6 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_7 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_8 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_v5 : Ref sig .tc := ⟨.hbm, 101, rfl⟩
abbrev main_call2_v6 : Ref sig .tc := ⟨.hbm, 102, rfl⟩
abbrev main_call2_c_2 : Ref sig .tc := ⟨.hbm, 103, rfl⟩
abbrev main_call2_v7 : Ref sig .tc := ⟨.hbm, 104, rfl⟩
abbrev main_call2_v8 : Ref sig .tc := ⟨.hbm, 105, rfl⟩
abbrev main_call2_c_3 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_v41 : Ref sig .tc := ⟨.hbm, 113, rfl⟩
abbrev main_c_9 : Ref sig .tc := ⟨.hbm, 114, rfl⟩
abbrev main_v42 : Ref sig .tc := ⟨.hbm, 115, rfl⟩
abbrev main_v43 : Ref sig .tc := ⟨.hbm, 116, rfl⟩
abbrev main_cst_10 : Ref sig .tc := ⟨.hbm, 117, rfl⟩
abbrev main_cst_11 : Ref sig .tc := ⟨.hbm, 118, rfl⟩
abbrev main_call3_v0 : Ref sig .tc := ⟨.hbm, 119, rfl⟩
abbrev main_call3_v1 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57_0 : Ref sig .tc := ⟨.hbm, 134, rfl⟩
abbrev main_v57_1 : Ref sig .tc := ⟨.hbm, 135, rfl⟩
abbrev main_v57_2 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 33], ![false, false]⟩

def k0_off1 (i : grid0.Coords) : Fin 2 → Nat :=
  let arg1 : BitVec 32 := BitVec.ofNat 32 (i 1).val
  let c32_i32 : BitVec 32 := 32#32
  let v0 : BitVec 1 := Scalar.cmpi .eq arg1 c32_i32
  let c2_i32 : BitVec 32 := 2#32
  let arg0 : BitVec 32 := BitVec.ofNat 32 (i 0).val
  let v6 : BitVec 32 := Scalar.select v0 c2_i32 arg0
  let v7 : Index := Scalar.indexCast v6
  let c0_5 : Index := 0#32
  ![v7.toNat, 0]
def k0_off2 (i : grid0.Coords) : Fin 2 → Nat :=
  let arg1 : BitVec 32 := BitVec.ofNat 32 (i 1).val
  let c32_i32 : BitVec 32 := 32#32
  let v0 : BitVec 1 := Scalar.cmpi .eq arg1 c32_i32
  let c2_i32 : BitVec 32 := 2#32
  let arg0 : BitVec 32 := BitVec.ofNat 32 (i 0).val
  let v6 : BitVec 32 := Scalar.select v0 c2_i32 arg0
  let v9 : Index := Scalar.indexCast v6
  let c1024 : Index := 1024#32
  ![v9.toNat, 1024]
def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x12x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S2x8192x1024 : Shape := ⟨3, ![2, 8192, 1024]⟩
abbrev S2x256x1024 : Shape := ⟨3, ![2, 256, 1024]⟩
abbrev S8x6144 : Shape := ⟨2, ![8, 6144]⟩
abbrev S1x1024 : Shape := ⟨2, ![1, 1024]⟩
abbrev S1x1024x4096 : Shape := ⟨3, ![1, 1024, 4096]⟩
abbrev S16 : Shape := ⟨1, ![16]⟩
abbrev S_ : Shape := ⟨0, ![]⟩
abbrev S128 : Shape := ⟨1, ![128]⟩
abbrev S64 : Shape := ⟨1, ![64]⟩
abbrev S128x64 : Shape := ⟨2, ![128, 64]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8x1024 : Shape := ⟨2, ![8, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x1024 : Shape := ⟨2, ![2, 1024]⟩
abbrev S2x1x1024 : Shape := ⟨3, ![2, 1, 1024]⟩
abbrev S2x256 : Shape := ⟨2, ![2, 256]⟩
abbrev S2x256x1 : Shape := ⟨3, ![2, 256, 1]⟩
abbrev S1024x4096 : Shape := ⟨2, ![1024, 4096]⟩
abbrev S2x8192x4096 : Shape := ⟨3, ![2, 8192, 4096]⟩
abbrev S2x256x4096 : Shape := ⟨3, ![2, 256, 4096]⟩
abbrev S2x8192x512 : Shape := ⟨3, ![2, 8192, 512]⟩
abbrev S2x8192x4x2x64 : Shape := ⟨5, ![2, 8192, 4, 2, 64]⟩
abbrev S2x4x2x8192x64 : Shape := ⟨5, ![2, 4, 2, 8192, 64]⟩
abbrev S2x4x2x8192x16 : Shape := ⟨5, ![2, 4, 2, 8192, 16]⟩
abbrev S1x1x1x8192x64 : Shape := ⟨5, ![1, 1, 1, 8192, 64]⟩
abbrev S2x4x8192x2x64 : Shape := ⟨5, ![2, 4, 8192, 2, 64]⟩
abbrev S2x4x8192x128 : Shape := ⟨4, ![2, 4, 8192, 128]⟩
abbrev S2x256x512 : Shape := ⟨3, ![2, 256, 512]⟩
abbrev S2x256x4x2x64 : Shape := ⟨5, ![2, 256, 4, 2, 64]⟩
abbrev S2x4x2x256x64 : Shape := ⟨5, ![2, 4, 2, 256, 64]⟩
abbrev S2x4x256x2x64 : Shape := ⟨5, ![2, 4, 256, 2, 64]⟩
abbrev S2x4x256x128 : Shape := ⟨4, ![2, 4, 256, 128]⟩
abbrev S2x4x8448x128 : Shape := ⟨4, ![2, 4, 8448, 128]⟩
abbrev S2x8192x4x128 : Shape := ⟨4, ![2, 8192, 4, 128]⟩
abbrev S2x256x4x128 : Shape := ⟨4, ![2, 256, 4, 128]⟩
abbrev S2x8448x4096 : Shape := ⟨3, ![2, 8448, 4096]⟩
abbrev S2x12x8448x128 : Shape := ⟨4, ![2, 12, 8448, 128]⟩
abbrev S2x8448x1024 : Shape := ⟨3, ![2, 8448, 1024]⟩
abbrev S2x8448x1536 : Shape := ⟨3, ![2, 8448, 1536]⟩

abbrev nBuf : Space → Nat
  | .hbm => 170
  | .vmem => 0
  | .smem => 0
  | _ => 0

abbrev hbmTy0_0 (i : Nat) : BufTy := match i % 128 with
  | 0 => ⟨S2x8192x1024, .f32⟩
  | 1 => ⟨S2x256x1024, .f32⟩
  | 2 => ⟨S8x6144, .f32⟩
  | 3 => ⟨S1x1024, .f32⟩
  | 4 => ⟨S1x1024x4096, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S128, .f32⟩
  | 22 => ⟨S64, .f32⟩
  | 23 => ⟨S128x64, .f32⟩
  | 24 => ⟨S128x64, .f32⟩
  | 25 => ⟨S8192, .f32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192, .f32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S8192x64, .f32⟩
  | 38 => ⟨S8192x64, .f32⟩
  | 39 => ⟨S8192x64, .f32⟩
  | 40 => ⟨S8x1024, .f32⟩
  | 41 => ⟨S8x1024, .f32⟩
  | 42 => ⟨S1024, .f32⟩
  | 43 => ⟨S2x8192x1024, .f32⟩
  | 44 => ⟨S_, .f32⟩
  | 45 => ⟨S2x8192, .f32⟩
  | 46 => ⟨S2x8192x1, .f32⟩
  | 47 => ⟨S_, .f32⟩
  | 48 => ⟨S2x8192x1, .f32⟩
  | 49 => ⟨S2x8192x1, .f32⟩
  | 50 => ⟨S_, .f32⟩
  | 51 => ⟨S2x8192x1, .f32⟩
  | 52 => ⟨S2x8192x1, .f32⟩
  | 53 => ⟨S2x8192x1, .f32⟩
  | 54 => ⟨S2x8192x1024, .f32⟩
  | 55 => ⟨S2x8192x1024, .f32⟩
  | 56 => ⟨S1x1x1024, .f32⟩
  | 57 => ⟨S2x8192x1024, .f32⟩
  | 58 => ⟨S2x8192x1024, .f32⟩
  | 59 => ⟨S2x1024, .f32⟩
  | 60 => ⟨S2x1x1024, .f32⟩
  | 61 => ⟨S2x1024, .f32⟩
  | 62 => ⟨S2x1x1024, .f32⟩
  | 63 => ⟨S_, .f32⟩
  | 64 => ⟨S2x1x1024, .f32⟩
  | 65 => ⟨S2x1x1024, .f32⟩
  | 66 => ⟨S2x8192x1024, .f32⟩
  | 67 => ⟨S2x8192x1024, .f32⟩
  | 68 => ⟨S2x8192x1024, .f32⟩
  | 69 => ⟨S2x8192x1024, .f32⟩
  | 70 => ⟨S1024, .f32⟩
  | 71 => ⟨S2x256x1024, .f32⟩
  | 72 => ⟨S_, .f32⟩
  | 73 => ⟨S2x256, .f32⟩
  | 74 => ⟨S2x256x1, .f32⟩
  | 75 => ⟨S_, .f32⟩
  | 76 => ⟨S2x256x1, .f32⟩
  | 77 => ⟨S2x256x1, .f32⟩
  | 78 => ⟨S_, .f32⟩
  | 79 => ⟨S2x256x1, .f32⟩
  | 80 => ⟨S2x256x1, .f32⟩
  | 81 => ⟨S2x256x1, .f32⟩
  | 82 => ⟨S2x256x1024, .f32⟩
  | 83 => ⟨S2x256x1024, .f32⟩
  | 84 => ⟨S1x1x1024, .f32⟩
  | 85 => ⟨S2x256x1024, .f32⟩
  | 86 => ⟨S2x256x1024, .f32⟩
  | 87 => ⟨S1x1024, .f32⟩
  | 88 => ⟨S1024, .f32⟩
  | 89 => ⟨S1x1024, .f32⟩
  | 90 => ⟨S1024, .f32⟩
  | 91 => ⟨S_, .f32⟩
  | 92 => ⟨S1024, .f32⟩
  | 93 => ⟨S1024, .f32⟩
  | 94 => ⟨S1x1x1024, .f32⟩
  | 95 => ⟨S2x256x1024, .f32⟩
  | 96 => ⟨S2x256x1024, .f32⟩
  | 97 => ⟨S1x1x1024, .f32⟩
  | 98 => ⟨S2x256x1024, .f32⟩
  | 99 => ⟨S2x256x1024, .f32⟩
  | 100 => ⟨S1024x4096, .f32⟩
  | 101 => ⟨S2x8192x4096, .f32⟩
  | 102 => ⟨S1024x4096, .f32⟩
  | 103 => ⟨S2x256x4096, .f32⟩
  | 104 => ⟨S2x8192x512, .f32⟩
  | 105 => ⟨S2x8192x4x2x64, .f32⟩
  | 106 => ⟨S2x4x2x8192x64, .f32⟩
  | 107 => ⟨S2x4x2x8192x16, .f32⟩
  | 108 => ⟨S2x4x2x8192x16, .f32⟩
  | 109 => ⟨S2x4x2x8192x16, .f32⟩
  | 110 => ⟨S2x4x2x8192x16, .f32⟩
  | 111 => ⟨S2x4x2x8192x16, .f32⟩
  | 112 => ⟨S2x4x2x8192x16, .f32⟩
  | 113 => ⟨S2x4x2x8192x64, .f32⟩
  | 114 => ⟨S1x1x1x8192x64, .f32⟩
  | 115 => ⟨S2x4x2x8192x64, .f32⟩
  | 116 => ⟨S2x4x2x8192x64, .f32⟩
  | 117 => ⟨S1x1x1x8192x64, .f32⟩
  | 118 => ⟨S2x4x2x8192x64, .f32⟩
  | 119 => ⟨S2x4x2x8192x64, .f32⟩
  | 120 => ⟨S2x4x2x8192x64, .f32⟩
  | 121 => ⟨S2x4x8192x2x64, .f32⟩
  | 122 => ⟨S2x4x8192x128, .f32⟩
  | 123 => ⟨S2x256x512, .f32⟩
  | 124 => ⟨S2x256x4x2x64, .f32⟩
  | 125 => ⟨S2x4x2x256x64, .f32⟩
  | 126 => ⟨S2x4x256x2x64, .f32⟩
  | 127 => ⟨S2x4x256x128, .f32⟩
  | _ => ⟨S2x8192x1024, .f32⟩

abbrev hbmTy0_1 (i : Nat) : BufTy := match i % 128 with
  | 0 => ⟨S2x4x8448x128, .f32⟩
  | 1 => ⟨S_, .f32⟩
  | 2 => ⟨S2x4x8448x128, .f32⟩
  | 3 => ⟨S2x4x8448x128, .f32⟩
  | 4 => ⟨S2x8192x512, .f32⟩
  | 5 => ⟨S2x8192x4x2x64, .f32⟩
  | 6 => ⟨S2x4x2x8192x64, .f32⟩
  | 7 => ⟨S2x4x2x8192x16, .f32⟩
  | 8 => ⟨S2x4x2x8192x16, .f32⟩
  | 9 => ⟨S2x4x2x8192x16, .f32⟩
  | 10 => ⟨S2x4x2x8192x16, .f32⟩
  | 11 => ⟨S2x4x2x8192x16, .f32⟩
  | 12 => ⟨S2x4x2x8192x16, .f32⟩
  | 13 => ⟨S2x4x2x8192x64, .f32⟩
  | 14 => ⟨S1x1x1x8192x64, .f32⟩
  | 15 => ⟨S2x4x2x8192x64, .f32⟩
  | 16 => ⟨S2x4x2x8192x64, .f32⟩
  | 17 => ⟨S1x1x1x8192x64, .f32⟩
  | 18 => ⟨S2x4x2x8192x64, .f32⟩
  | 19 => ⟨S2x4x2x8192x64, .f32⟩
  | 20 => ⟨S2x4x2x8192x64, .f32⟩
  | 21 => ⟨S2x4x8192x2x64, .f32⟩
  | 22 => ⟨S2x4x8192x128, .f32⟩
  | 23 => ⟨S2x256x512, .f32⟩
  | 24 => ⟨S2x256x4x2x64, .f32⟩
  | 25 => ⟨S2x4x2x256x64, .f32⟩
  | 26 => ⟨S2x4x256x2x64, .f32⟩
  | 27 => ⟨S2x4x256x128, .f32⟩
  | 28 => ⟨S2x4x8448x128, .f32⟩
  | 29 => ⟨S2x8192x512, .f32⟩
  | 30 => ⟨S2x8192x4x128, .f32⟩
  | 31 => ⟨S2x4x8192x128, .f32⟩
  | 32 => ⟨S2x256x512, .f32⟩
  | 33 => ⟨S2x256x4x128, .f32⟩
  | 34 => ⟨S2x4x256x128, .f32⟩
  | 35 => ⟨S2x4x8448x128, .f32⟩
  | 36 => ⟨S2x8448x4096, .f32⟩
  | 37 => ⟨S2x12x8448x128, .f32⟩
  | 38 => ⟨S2x12x8448x128, .bf16⟩
  | 39 => ⟨S2x8448x1024, .f32⟩
  | 40 => ⟨S2x8448x1536, .f32⟩
  | 41 => ⟨S2x8448x1536, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_11 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_12 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩

abbrev nD : Nat := 1
abbrev τ : Topo := Topo.v7x

variable {F : FTy → Type} [FloatOps F]
-- ==== Proof.Twin.lean ====
/- The kernel as printed and the kernel idealized are the same text: their body tables and their mains are equal, so a run of
   one is a run of the other. -/
module
public import proofs.«01_k».proof.Proof.Gen.Kernel
public import proofs.«01_k».proof.Proof.Gen.KernelIdeal
@[expose] public section
noncomputable section
namespace Cert.Twin
open Idealize.ShloMosaic Idealize.SL.Sem
variable {F : FTy → Type} [FloatOps F]

set_option maxHeartbeats 0 in
/-- The two kernel functions are equal. -/
theorem attn_eq : (Cert.Kernel.cc0_attn (F := F)) = Cert.KernelIdeal.cc0_attn (F := F) := rfl

/-- The two tables of kernel bodies are equal. -/
theorem defs₀_eq : (Cert.Kernel.defs₀ (F := F)) = Cert.KernelIdeal.defs₀ (F := F) := by
  refine congrArg Defs.onTc (funext fun l => funext fun a => ?_)
  match l, a with
  | 0, (t, s) => rfl
  | ⟨n + 1, h⟩, _ => exact absurd h (Nat.not_lt.2 (Nat.le_add_left _ _))

/-- The two body tables, the pipelines included, are equal. -/
theorem defs_eq : (Cert.Kernel.defs (F := F)) = Cert.KernelIdeal.defs (F := F) :=
  congrArg (Pipeline.defs Cert.KernelIdeal.pcfgs) defs₀_eq

set_option maxHeartbeats 0 in
/-- The two mains are equal. -/
theorem main_eq : (Cert.Kernel.main (F := F)) = Cert.KernelIdeal.main (F := F) := by
  funext d
  delta Cert.Kernel.main Cert.KernelIdeal.main
  repeat' first | rfl | refine congr (congrArg _ ?_) ?_ | refine congrArg _ ?_ | (funext _)

end Cert.Twin
end
-- ==== Proof.Trip.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.ValueIdxCore
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Key (or value) chunk `n`: rows `768 n` to `768 n + 767` of the block. -/
def chunk (K : Vec F S1x1x8448x128 .bf16) (n : ℕ) : Vec F S1x1x768x128 .bf16 :=
  fun y => K (ix4 (n0 := 1) (n1 := 1) (n2 := 8448) (n3 := 128) 0 0 ⟨(n * 768 + (y 2).val) % 8448, Nat.mod_lt _ (by decide)⟩ (y 3))

section
variable (K V : Vec F S1x1x8448x128 .bf16) (Q : Vec F S2048x128 .bf16)

/-- The scores of key chunk `n`. -/
def Sc (n : ℕ) : Vec F S2048x768 .f32 := k0_pay2 (chunk K n) Q
/-- The running row maxima before chunk `n`. -/
def Mx : ℕ → Vec F S2048x128 .f32
  | 0 => k0_pay231
  | n + 1 => k0_pay6 (Mx n) (Sc K Q n)
/-- The exponentials of scores against maxima, the maxima repeated along a row every 128 lanes. -/
def Pex (M : Vec F S2048x128 .f32) (S : Vec F S2048x768 .f32) : Vec F S2048x768 .bf16 := fun y =>
  FloatOps.exp2 (FloatOps.truncf .bf16 bitsLt_bf16_f32 (FloatOps.subf (S y)
    (M (ix2 (n0 := 2048) (n1 := 128) (y 0) ⟨(y 1).val % 128, Nat.mod_lt _ (by decide)⟩))))
/-- The exponentials of chunk `n`'s scores against the maxima after it. -/
def Pb (n : ℕ) : Vec F S2048x768 .bf16 := Pex (Mx K Q (n + 1)) (Sc K Q n)
/-- The accumulator before chunk `n`. -/
def Ac : ℕ → Vec F S2048x256 .f32
  | 0 => k0_pay232
  | n + 1 => k0_pay235 (k0_pay3 (chunk V n)) (k0_pay115 (k0_pay5 (Mx K Q n) (Sc K Q n))) (Ac n) (Pb K Q n)
end

/-- A load of a block of key rows reads the chunk of that number. -/
theorem readAt_chunk {v : View sig .tc .vmem S1x1x8448x128 .bf16} (f : v.ty.Contents (Elt F)) (K : Vec F S1x1x8448x128 .bf16)
    (hK : v.read (Elt F) f = K) (n : ℕ) (hn : n < 11) {off : Fin 4 → ℕ} (inb) (h : off = ![0, 0, n * 768, 0]) :
    v.readAt (Elt F) (Rect.unit (s := S1x1x8448x128) off S1x1x768x128.size inb).toLoadRect f = chunk K n := by
  subst h
  funext y
  rw [View.readAt_apply, hK]
  refine congrArg K (funext fun a => Fin.ext ?_)
  have h0 : (y 0).val < 1 := (y 0).isLt
  have h1 : (y 1).val < 1 := (y 1).isLt
  have h2 : (y 2).val < 768 := (y 2).isLt
  match a with
  | ⟨0, _⟩ => show 0 + 1 * (y 0).val = 0; omega
  | ⟨1, _⟩ => show 0 + 1 * (y 1).val = 0; omega
  | ⟨2, _⟩ => show n * 768 + 1 * (y 2).val = (n * 768 + (y 2).val) % 8448; omega
  | ⟨3, _⟩ => show 0 + 1 * (y 3).val = (y 3).val; omega

/-- A load of part of a buffer that was stored whole reads that part of what was stored. -/
theorem readCov_of_whole {sp : Space} {s : Shape} {e : EltTy} (v : View sig .tc sp s e) {off : Fin s.rank → ℕ}
    (inb : ∀ a, off a + s.size a ≤ s.size a) (w : (Rect.unit off s.size inb).shape.Idx → Elt F e) (L) (r : Rect s) :
    v.readCov (⟨Rect.unit off s.size inb, w⟩ :: L) r.toLoadRect = fun x => w (r.emb x) := by
  funext x
  show v.readAt (Elt F) _ _ x = _
  rw [View.readAt_apply, View.read_writes_full]
  rfl

/-- A load of part of a buffer reads that part of its contents. -/
theorem readAt_part {sp : Space} {s : Shape} {e : EltTy} (v : View sig .tc sp s e) (f : v.ty.Contents (Elt F)) (r : Rect s) :
    v.readAt (Elt F) r.toLoadRect f = fun x => v.read (Elt F) f (r.emb x) := by
  funext x
  rw [View.readAt_apply]
  rfl

/-- One stored tile of exponentials. -/
theorem tile_piece (M : Vec F S2048x128 .f32) (S : Vec F S2048x768 .f32) {r0 c0 : ℕ} (hm) (hs)
    {v s : Vec F S128x128 .f32} (hv : v = fun x => M ((Rect.unit (s := S2048x128) ![r0, 0] S128x128.size hm).emb x))
    (hS : s = fun x => S ((Rect.unit (s := S2048x768) ![r0, c0] S128x128.size hs).emb x)) (hc : c0 % 128 = 0) :
    ∀ x : S128x128.Idx, k0_pay7 v s x = Pex M S ((Rect.unit (s := S2048x768) ![r0, c0] S128x128.size hs).emb x) := by
  intro x
  subst hv hS
  unfold k0_pay7
  rw [shapeCast_self]
  show FloatOps.exp2 (FloatOps.truncf .bf16 bitsLt_bf16_f32 (FloatOps.subf _ (M _))) = FloatOps.exp2 (FloatOps.truncf .bf16 bitsLt_bf16_f32 (FloatOps.subf _ (M _)))
  refine congrArg (fun z => FloatOps.exp2 (FloatOps.truncf .bf16 bitsLt_bf16_f32 (FloatOps.subf _ (M z)))) ?_
  funext a
  have h1 : (x 1).val < 128 := (x 1).isLt
  match a with
  | ⟨0, _⟩ => rfl
  | ⟨1, _⟩ => exact Fin.ext (by show 0 + 1 * (x 1).val = (c0 + 1 * (x 1).val) % 128; omega)

/-- Pieces agreeing with one function, one at a time. -/
theorem pieces_cons {s : Shape} {e : EltTy} {G : s.Idx → Elt F e} {p : View.Piece (Elt F) s e} {L : List (View.Piece (Elt F) s e)}
    (hp : ∀ x, p.2 x = G (p.1.emb x)) (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | hq
  · exact hp
  · exact hL q hq

theorem pieces_nil {s : Shape} {e : EltTy} {G : s.Idx → Elt F e} :
    ∀ q ∈ ([] : List (View.Piece (Elt F) s e)), ∀ x : q.1.shape.Idx, q.2 x = G (q.1.emb x) := fun _ h => absurd h List.not_mem_nil

/-- A whole load after stores that agree with one function and cover the buffer. -/
theorem readCov_pieces {sp : Space} {s : Shape} {e : EltTy} (v : View sig .tc sp s e) {off : Fin s.rank → ℕ}
    (inb : ∀ a, off a + s.size a ≤ s.size a) {G : s.Idx → Elt F e} (L : List (View.Piece (Elt F) s e))
    (hp : ∀ q ∈ L, ∀ x : q.1.shape.Idx, q.2 x = G (q.1.emb x)) (hc : ∀ y : s.Idx, ∃ p ∈ L, y ∈ p.1.set) :
    v.readCov L (Rect.unit off s.size inb).toLoadRect = G :=
  (View.readAt_full v _ inb).trans (funext fun y => View.read_writes_apply_of_pieces v _ G L hp y (hc y))

theorem off1_1 : ∀ k : Fin k0_t1_loop.trips, k0_off1 k 1#32 = ![0, 0, (2 * k.val + 1) * 768, 0] := by decide +kernel
theorem off1_2 : ∀ k : Fin k0_t1_loop.trips, k0_off1 k 2#32 = ![0, 0, (2 * k.val + 2) * 768, 0] := by decide +kernel
theorem off2 : ∀ k : Fin k0_t1_loop.trips, k0_off2 k = ![0, 0, (2 * k.val) * 768, 0] := by decide +kernel
theorem trips_lt : ∀ k : Fin k0_t1_loop.trips, k.val < 5 := by decide +kernel

variable (c : Dev nD) (𝒱 : Variants)

section
variable (i : grid0.Coords) (arg3 : Memref sig .tc .smem S1x1 .f32) (harg3 : arg3.IsWhole) (arg4 : Memref sig .tc .vmem S1x1x1024x128 .bf16) (harg4 : arg4.IsWhole) (arg5 : Memref sig .tc .vmem S1x1x8448x128 .bf16) (harg5 : arg5.IsWhole) (arg6 : Memref sig .tc .vmem S1x1x8448x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x768 .f32) (harg10 : arg10.IsWhole) (arg11 : Memref sig .tc .vmem S2048x768 .f32) (harg11 : arg11.IsWhole) (arg12 : Memref sig .tc .vmem S2048x768 .bf16) (harg12 : arg12.IsWhole) (arg13 : Memref sig .tc .vmem S2048x768 .bf16) (harg13 : arg13.IsWhole) (arg14 : Memref sig .tc .vmem S2048x128 .f32) (harg14 : arg14.IsWhole) (arg15 : Memref sig .tc .vmem S2048x256 .f32) (harg15 : arg15.IsWhole)

/-- What one trip touches. -/
abbrev Trip (f5 : Buf (Elt F) (arg5.view.loc (c : Thread nD τ))) (f6 : Buf (Elt F) (arg6.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) : sProp 𝕄 :=
  iprop((arg5.view.loc (c : Thread nD τ) ↦[arg5.view.set]{fullShare} f5) ∗ (arg6.view.loc (c : Thread nD τ) ↦[arg6.view.set]{fullShare} f6)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11) ∗ (arg12.view.loc (c : Thread nD τ) ↦[arg12.view.set]{fullShare} f12)
    ∗ (arg13.view.loc (c : Thread nD τ) ↦[arg13.view.set]{fullShare} f13) ∗ (arg14.view.loc (c : Thread nD τ) ↦[arg14.view.set]{fullShare} f14)
    ∗ (arg15.view.loc (c : Thread nD τ) ↦[arg15.view.set]{fullShare} f15))

set_option maxHeartbeats 4000000 in
/-- One trip of the loop: two key chunks. -/
theorem trip (K V : Vec F S1x1x8448x128 .bf16) (Q : Vec F S2048x128 .bf16)
    (v27 : FVec F S768x128 .bf16) (v28 : Vec F S2048x128 .bf16) (cst_18 : FVec F S2048x768 .f32) (k : Fin k0_t1_loop.trips)
    (f5 f6 f9 f10 f11 f12 f13 f14 f15) (h5 : arg5.view.read (Elt F) f5 = K) (h6 : arg6.view.read (Elt F) f6 = V)
    (h9 : arg9.view.read (Elt F) f9 = Q) (h10 : arg10.view.read (Elt F) f10 = Sc K Q (2 * k.val))
    (h14 : arg14.view.read (Elt F) f14 = Mx K Q (2 * k.val)) (h15 : arg15.view.read (Elt F) f15 = Ac K V Q (2 * k.val)) :
    Trip c arg5 arg6 arg9 arg10 arg11 arg12 arg13 arg14 arg15 f5 f6 f9 f10 f11 f12 f13 f14 f15
      ⊢ wp frame (wpE (defs₀ (F := F)) 𝒱 (c : Thread nD τ) none) Set.univ
          (k0_t1_body i arg3 harg3 arg4 harg4 arg5 harg5 arg6 harg6 arg7 harg7 arg8 harg8 arg9 harg9 arg10 harg10 arg11 harg11 arg12 harg12 arg13 harg13 arg14 harg14 arg15 harg15 v27 v28 cst_18 k ())
          (fun _ => iprop(∃ g10 g11 g12 g13 g14 g15, ⌜arg10.view.read (Elt F) g10 = Sc K Q (2 * k.val + 2) ∧ arg14.view.read (Elt F) g14 = Mx K Q (2 * k.val + 2)
              ∧ arg15.view.read (Elt F) g15 = Ac K V Q (2 * k.val + 2)⌝
            ∗ Trip c arg5 arg6 arg9 arg10 arg11 arg12 arg13 arg14 arg15 f5 f6 f9 g10 g11 g12 g13 g14 g15)) := by
  have hk := trips_lt k
  iintro ⟨H5, H6, H9, H10, H11, H12, H13, H14, H15⟩
  sl_unfold [k0_t1_body]
  sl_exec_parts
  sl_step
  -- the values the run names
  have e10 : arg10.view.read (Elt F) (arg10.view.writes (Elt F) f10 (trip.sl.H10_1 arg5 arg9 k f5 f9)) = Sc K Q (2 * k.val + 2) := by
    unfold trip.sl.H10_1
    rw [View.read_writes_full, View.readAt_full, readAt_chunk f5 K h5 (2 * k.val + 2) (by omega) _ (off1_2 k), h9]
    rfl
  have e11 : trip.sl.v1536 arg5 arg9 arg11 k f5 f9 = Sc K Q (2 * k.val + 1) := by
    unfold trip.sl.v1536 trip.sl.H11_1
    rw [View.readCov_full, View.readAt_full, readAt_chunk f5 K h5 (2 * k.val + 1) (by omega) _ (off1_1 k), h9]
    rfl
  have e14 : trip.sl.v1535 arg10 arg14 f10 f14 = Mx K Q (2 * k.val + 1) := by
    unfold trip.sl.v1535 trip.sl.H14_1
    rw [View.readCov_full, View.readAt_full, View.readAt_full, h10, h14]
    rfl
  have e14' : arg14.view.read (Elt F) (arg14.view.writes (Elt F) f14 (trip.sl.H14_2 arg5 arg9 arg10 arg11 arg14 k f5 f9 f10 f14))
      = Mx K Q (2 * k.val + 2) := by
    unfold trip.sl.H14_2
    rw [View.read_writes_full, e11, e14]
    rfl
  have e12 : trip.sl.v1508 arg10 arg12 arg14 f10 f14 = Pb K Q (2 * k.val) := by
    have hp : ∀ q ∈ trip.sl.H12_96 arg10 arg14 f10 f14, ∀ x : q.1.shape.Idx, q.2 x = Pex (k0_pay6 (Mx K Q (2 * k.val)) (Sc K Q (2 * k.val))) (Sc K Q (2 * k.val)) (q.1.emb x) := by
      have hM : k0_pay6 (Mx K Q (2 * k.val)) (Sc K Q (2 * k.val)) = k0_pay6
          (View.readAt (Elt F) arg14.view (Rect.unit ![0, 0] S2048x128.size inb_S2048x128_S2048x128_0_0).toLoadRect f14)
          (View.readAt (Elt F) arg10.view (Rect.unit ![0, 0] S2048x768.size inb_S2048x768_S2048x768_0_0).toLoadRect f10) := by
        rw [View.readAt_full, View.readAt_full, h10, h14]
      rw [hM, ← h10]
      repeat refine pieces_cons (tile_piece _ _ _ _ (readCov_of_whole _ _ _ _ _) (readAt_part _ _ _) rfl) ?_
      exact pieces_nil
    exact readCov_pieces _ _ _ hp (View.cover_of_tiled _ ![128, 128] rfl)
  have e13 : trip.sl.v2238 arg5 arg9 arg10 arg11 arg13 arg14 k f5 f9 f10 f14 = Pb K Q (2 * k.val + 1) := by
    have hp : ∀ q ∈ trip.sl.H13_96 arg5 arg9 arg10 arg11 arg14 k f5 f9 f10 f14, ∀ x : q.1.shape.Idx,
        q.2 x = Pex (k0_pay121 (trip.sl.v1535 arg10 arg14 f10 f14) (trip.sl.v1536 arg5 arg9 arg11 k f5 f9))
          (k0_pay2 (View.readAt (Elt F) arg5.view (Rect.unit (s := S1x1x8448x128) (k0_off1 k 1#32) S1x1x768x128.size (k0_off1_inb k 0)).toLoadRect f5)
            (View.readAt (Elt F) arg9.view (Rect.unit ![0, 0] S2048x128.size inb_S2048x128_S2048x128_0_0).toLoadRect f9)) (q.1.emb x) := by
      repeat refine pieces_cons (tile_piece _ _ _ _ (readCov_of_whole _ _ _ _ _) (readCov_of_whole _ _ _ _ _) rfl) ?_
      exact pieces_nil
    rw [e14, e11, View.readAt_full, readAt_chunk f5 K h5 (2 * k.val + 1) (by omega) _ (off1_1 k), h9] at hp
    exact readCov_pieces _ _ _ hp (View.cover_of_tiled _ ![128, 128] rfl)
  have e15 : trip.sl.v2236 arg6 arg10 arg12 arg14 arg15 k f6 f10 f14 f15 = Ac K V Q (2 * k.val + 1) := by
    unfold trip.sl.v2236 trip.sl.H15_1 trip.sl.r trip.sl.r_14 trip.sl.r_1
    rw [View.readCov_full, readAt_chunk f6 V h6 (2 * k.val) (by omega) _ (off2 k), View.readAt_full, View.readAt_full, View.readAt_full, h10, h14, h15, e12]
    rfl
  have e15' : k0_pay235 (trip.sl.r_15 arg6 k f6) (trip.sl.r_33 arg5 arg9 arg10 arg11 arg14 k f5 f9 f10 f14)
            (trip.sl.v2236 arg6 arg10 arg12 arg14 arg15 k f6 f10 f14 f15)
            (trip.sl.v2238 arg5 arg9 arg10 arg11 arg13 arg14 k f5 f9 f10 f14) = Ac K V Q (2 * k.val + 2) := by
    unfold trip.sl.r_15 trip.sl.r_33 trip.sl.r_16
    rw [e15, e13, e14, e11, readAt_chunk f6 V h6 (2 * k.val + 1) (by omega) _ (off1_1 k)]
    rfl
  iexists _, _, _, _, _, _
  isplitr
  swap
  · isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    iexact H15
  · ipureintro
    exact ⟨e10, e14', by rw [View.read_writes_full]; exact e15'⟩
end

end Cert.KernelIdeal.Hand

end
-- ==== Proof.Body.lean ====
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two masked copies of the query block, one above the other. -/
def Qs (q : Vec F S1x1x1024x128 .bf16) : Vec F S2048x128 .bf16 := fun y =>
  if h : (y 0).val < 1024 then k0_pay229 q (ix2 (n0 := 1024) (n1 := 128) ⟨(y 0).val, h⟩ (y 1))
  else k0_pay230 q (ix2 (n0 := 1024) (n1 := 128) ⟨(y 0).val % 1024, Nat.mod_lt _ (by decide)⟩ (y 1))

theorem Qs_lo (q : Vec F S1x1x1024x128 .bf16) (y : S2048x128.Idx) (h : (y 0).val < 1024) :
    Qs q y = k0_pay229 q (ix2 (n0 := 1024) (n1 := 128) ⟨(y 0).val, h⟩ (y 1)) := dif_pos h

theorem Qs_hi (q : Vec F S1x1x1024x128 .bf16) (y : S2048x128.Idx) (h : ¬ (y 0).val < 1024) :
    Qs q y = k0_pay230 q (ix2 (n0 := 1024) (n1 := 128) ⟨(y 0).val % 1024, Nat.mod_lt _ (by decide)⟩ (y 1)) := dif_neg h

/-- The two stores into the query scratch agree with `Qs`. -/
theorem qs_pieces {q q' : Vec F S1x1x1024x128 .bf16} (h : q' = q) : ∀ p ∈ ([⟨Rect.unit ![1024, 0] S1024x128.size inb_S2048x128_S1024x128_1024_0, k0_pay230 q'⟩,
      ⟨Rect.unit ![0, 0] S1024x128.size inb_S2048x128_S1024x128_0_0, k0_pay229 q'⟩] : List (View.Piece (Elt F) S2048x128 .bf16)),
    ∀ x : p.1.shape.Idx, p.2 x = Qs q (p.1.emb x) := by
  subst h
  refine pieces_cons (fun x => ?_) (pieces_cons (fun x => ?_) pieces_nil)
  · have h0 : (x 0).val < 1024 := (x 0).isLt
    refine (congrArg (k0_pay230 q') (funext fun a => Fin.ext ?_)).trans (Qs_hi q' _ (show ¬ (1024 + 1 * (x 0).val < 1024) by omega)).symm
    match a with
    | ⟨0, _⟩ => show (x 0).val = (1024 + 1 * (x 0).val) % 1024; omega
    | ⟨1, _⟩ => show (x 1).val = 0 + 1 * (x 1).val; omega
  · have h0 : (x 0).val < 1024 := (x 0).isLt
    refine (congrArg (k0_pay229 q') (funext fun a => Fin.ext ?_)).trans (Qs_lo q' _ (show 0 + 1 * (x 0).val < 1024 by omega)).symm
    match a with
    | ⟨0, _⟩ => show (x 0).val = 0 + 1 * (x 0).val; omega
    | ⟨1, _⟩ => show (x 1).val = 0 + 1 * (x 1).val; omega

/-- The output block from the accumulator after the last chunk. -/
def epi (lam : Elt F .f32) (A : Vec F S2048x256 .f32) (g : Vec F S1x128 .f32) : Vec F S1x1024x128 .bf16 :=
  k0_pay1 (k0_pay349 (fun y => A (ix2 (n0 := 2048) (n1 := 256) (y 0) 128))
    (fun y => A (ix2 (n0 := 2048) (n1 := 256) (y 0) ⟨(y 1).val % 256, Nat.mod_lt _ (by decide)⟩)) lam) g

/-- The output block of one grid point. -/
def outB (lam : Vec F S1x1 .f32) (q : Vec F S1x1x1024x128 .bf16) (K V : Vec F S1x1x8448x128 .bf16) (g : Vec F S1x128 .f32) :
    Vec F S1x1024x128 .bf16 := epi (lam (ix2 (n0 := 1) (n1 := 1) 0 0)) (Ac K V (Qs q) 11) g

variable (c : Dev nD) (𝒱 : Variants)

section
variable (i : grid0.Coords) (arg3 : Memref sig .tc .smem S1x1 .f32) (harg3 : arg3.IsWhole) (arg4 : Memref sig .tc .vmem S1x1x1024x128 .bf16) (harg4 : arg4.IsWhole) (arg5 : Memref sig .tc .vmem S1x1x8448x128 .bf16) (harg5 : arg5.IsWhole) (arg6 : Memref sig .tc .vmem S1x1x8448x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x768 .f32) (harg10 : arg10.IsWhole) (arg11 : Memref sig .tc .vmem S2048x768 .f32) (harg11 : arg11.IsWhole) (arg12 : Memref sig .tc .vmem S2048x768 .bf16) (harg12 : arg12.IsWhole) (arg13 : Memref sig .tc .vmem S2048x768 .bf16) (harg13 : arg13.IsWhole) (arg14 : Memref sig .tc .vmem S2048x128 .f32) (harg14 : arg14.IsWhole) (arg15 : Memref sig .tc .vmem S2048x256 .f32) (harg15 : arg15.IsWhole)

set_option maxHeartbeats 8000000 in
/-- One grid point's body: the output buffer ends at the output block. -/
theorem body (lam : Vec F S1x1 .f32) (q : Vec F S1x1x1024x128 .bf16) (K V : Vec F S1x1x8448x128 .bf16) (g : Vec F S1x128 .f32)
    (f3 f4 f5 f6 f7 f8 f9 f10 f11 f12 f13 f14 f15) (h3 : arg3.view.read (Elt F) f3 = lam) (h4 : arg4.view.read (Elt F) f4 = q)
    (h5 : arg5.view.read (Elt F) f5 = K) (h6 : arg6.view.read (Elt F) f6 = V) (h7 : arg7.view.read (Elt F) f7 = g) :
    iprop((arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13) ∗ (arg14.view.loc (c : Thread nD τ) ↦[arg14.view.set]{fullShare} f14)
      ∗ (arg15.view.loc (c : Thread nD τ) ↦[arg15.view.set]{fullShare} f15))
      ⊢ wp frame (wpE (defs₀ (F := F)) 𝒱 (c : Thread nD τ) none) Set.univ
          (cc0_attn i arg3 harg3 arg4 harg4 arg5 harg5 arg6 harg6 arg7 harg7 arg8 harg8 arg9 harg9 arg10 harg10 arg11 harg11 arg12 harg12 arg13 harg13 arg14 harg14 arg15 harg15)
          (fun _ => iprop(∃ g8 g9 g10 g11 g12 g13 g14 g15, ⌜arg8.view.read (Elt F) g8 = outB lam q K V g⌝
            ∗ (arg3.view.loc (c : Thread nD τ) ↦[arg3.view.set]{fullShare} f3) ∗ (arg4.view.loc (c : Thread nD τ) ↦[arg4.view.set]{fullShare} f4)
            ∗ (arg7.view.loc (c : Thread nD τ) ↦[arg7.view.set]{fullShare} f7) ∗ (arg8.view.loc (c : Thread nD τ) ↦[arg8.view.set]{fullShare} g8)
            ∗ Trip c arg5 arg6 arg9 arg10 arg11 arg12 arg13 arg14 arg15 f5 f6 g9 g10 g11 g12 g13 g14 g15)) := by
  iintro ⟨H3, H4, H5, H6, H7, H8, H9, H10, H11, H12, H13, H14, H15⟩
  sl_unfold [cc0_attn]
  sl_exec_parts
  sl_for (fun (k : ℕ) (_ : Unit) => iprop(∃ g9 g10 g11 g12 g13 g14 g15, ⌜arg9.view.read (Elt F) g9 = Qs q ∧ arg10.view.read (Elt F) g10 = Sc K (Qs q) (2 * k)
        ∧ arg14.view.read (Elt F) g14 = Mx K (Qs q) (2 * k) ∧ arg15.view.read (Elt F) g15 = Ac K V (Qs q) (2 * k)⌝
      ∗ Trip c arg5 arg6 arg9 arg10 arg11 arg12 arg13 arg14 arg15 f5 f6 g9 g10 g11 g12 g13 g14 g15)) $$ [H5 H6 H9 H10 H11 H12 H13 H14 H15]
  · intro k acc
    iintro ⟨%g9, %g10, %g11, %g12, %g13, %g14, %g15, %hh, H⟩
    obtain ⟨h9, h10, h14, h15⟩ := hh
    refine (trip c 𝒱 i arg3 harg3 arg4 harg4 arg5 harg5 arg6 harg6 arg7 harg7 arg8 harg8 arg9 harg9 arg10 harg10 arg11 harg11 arg12 harg12 arg13 harg13 arg14 harg14 arg15 harg15 K V (Qs q) _ _ _ k f5 f6 g9 g10 g11 g12 g13 g14 g15 h5 h6 h9 h10 h14 h15).trans (wp_mono _ _ _ fun _ => ?_)
    iintro ⟨%g10', %g11', %g12', %g13', %g14', %g15', %hh', H⟩
    iexists g9, g10', g11', g12', g13', g14', g15'
    isplitr
    · ipureintro
      exact ⟨h9, hh'⟩
    · iexact H
  · have e9 : arg9.view.read (Elt F) (arg9.view.writes (Elt F) arg9.view.junk (body.sl.H9_2 arg4 f4)) = Qs q := by
      unfold body.sl.H9_2
      exact funext fun y => View.read_writes_apply_of_pieces _ _ _ _ (qs_pieces (View.readAt_full _ _ _ ▸ h4 ▸ rfl)) y (View.cover_of_tiled _ ![1024, 128] rfl y)
    have e28 : body.sl.v28 arg4 arg9 f4 = Qs q := by
      unfold body.sl.v28 body.sl.H9_2
      exact readCov_pieces _ _ _ (qs_pieces (View.readAt_full _ _ _ ▸ h4 ▸ rfl)) (View.cover_of_tiled _ ![1024, 128] rfl)
    have e10 : arg10.view.read (Elt F) (arg10.view.writes (Elt F) arg10.view.junk (body.sl.H10_1 arg4 arg5 arg9 f4 f5)) = Sc K (Qs q) 0 := by
      unfold body.sl.H10_1
      rw [View.read_writes_full, e28]
      unfold body.sl.r
      rw [readAt_chunk f5 K h5 0 (by omega) _ rfl]
      rfl
    have e14 : arg14.view.read (Elt F) (arg14.view.writes (Elt F) arg14.view.junk body.sl.H14_1) = Mx K (Qs q) 0 := by
      unfold body.sl.H14_1
      rw [View.read_writes_full]
      rfl
    have e15 : arg15.view.read (Elt F) (arg15.view.writes (Elt F) arg15.view.junk body.sl.H15_1) = Ac K V (Qs q) 0 := by
      unfold body.sl.H15_1
      rw [View.read_writes_full]
      rfl
    iexists _, _, _, _, _, _, _
    isplitr
    swap
    · isplitl [H5]; · iexact H5
      isplitl [H6]; · iexact H6
      isplitl [H9]; · iexact H9
      isplitl [H10]; · iexact H10
      isplitl [H11]; · iexact H11
      isplitl [H12]; · iexact H12
      isplitl [H13]; · iexact H13
      isplitl [H14]; · iexact H14
      iexact H15
    · ipureintro
      exact ⟨e9, e10, e14, e15⟩
  · iintro %acc ⟨%g9, %g10, %g11, %g12, %g13, %g14, %g15, %hh, H5, H6, H9, H10, H11, H12, H13, H14, H15⟩
    obtain ⟨h9, h10, h14, h15⟩ := hh
    sl_exec_parts
    sl_step
    have h10 : arg10.view.read (Elt F) g10 = Sc K (Qs q) 10 := h10
    have h14 : arg14.view.read (Elt F) g14 = Mx K (Qs q) 10 := h14
    have h15 : arg15.view.read (Elt F) g15 = Ac K V (Qs q) 10 := h15
    have e12 : body.sl.v743 arg10 arg12 arg14 g10 g14 = Pb K (Qs q) 10 := by
      have hp : ∀ p ∈ body.sl.H12_96 arg10 arg14 g10 g14, ∀ x : p.1.shape.Idx, p.2 x = Pex (k0_pay6 (Mx K (Qs q) 10) (Sc K (Qs q) 10)) (Sc K (Qs q) 10) (p.1.emb x) := by
        have hM : k0_pay6 (Mx K (Qs q) 10) (Sc K (Qs q) 10) = k0_pay6
            (View.readAt (Elt F) arg14.view (Rect.unit ![0, 0] S2048x128.size inb_S2048x128_S2048x128_0_0).toLoadRect g14)
            (View.readAt (Elt F) arg10.view (Rect.unit ![0, 0] S2048x768.size inb_S2048x768_S2048x768_0_0).toLoadRect g10) := by
          rw [View.readAt_full, View.readAt_full, h10, h14]
        rw [hM, ← h10]
        repeat refine pieces_cons (tile_piece _ _ _ _ (readCov_of_whole _ _ _ _ _) (readAt_part _ _ _) rfl) ?_
        exact pieces_nil
      exact readCov_pieces _ _ _ hp (View.cover_of_tiled _ ![128, 128] rfl)
    have e15' : body.sl.r_15 arg6 arg10 arg12 arg14 arg15 f6 g10 g14 g15 = Ac K V (Qs q) 11 := by
      unfold body.sl.r_15 body.sl.r_1 body.sl.r_2
      rw [e12, View.readAt_full, View.readAt_full, View.readAt_full, h10, h14, h15, readAt_chunk f6 V h6 10 (by omega) _ rfl]
      rfl
    have e8 : arg8.view.read (Elt F) (arg8.view.writes (Elt F) f8
      [⟨Rect.unit ![0, 0, 0] S1x1024x128.size inb_S1x1024x128_S1x1024x128_0_0_0,
          k0_pay1 (body.sl.r_17 arg3 arg6 arg10 arg12 arg14 arg15 f3 f6 g10 g14 g15)
            (View.readAt (Elt F) arg7.view (Rect.unit ![0, 0] S1x128.size inb_S1x128_S1x128_0_0).toLoadRect f7)⟩]) = outB lam q K V g := by
      rw [View.read_writes_full, View.readAt_full, h7]
      unfold body.sl.r_17 body.sl.v749 body.sl.v752 body.sl.r_16 body.sl.H15_1_1
      rw [readCov_of_whole, readCov_of_whole, e15']
      unfold outB epi
      congr 1
      congr 1
      · funext x
        refine congrArg (Ac K V (Qs q) 11) (funext fun a => Fin.ext ?_)
        have h1 : (x 1).val < 1 := (x 1).isLt
        match a with
        | ⟨0, _⟩ => show 0 + 1 * (x 0).val = (x 0).val; omega
        | ⟨1, _⟩ => show 128 + 1 * (x 1).val = 128; omega
      · funext x
        refine congrArg (Ac K V (Qs q) 11) (funext fun a => Fin.ext ?_)
        have h1 : (x 1).val < 128 := (x 1).isLt
        match a with
        | ⟨0, _⟩ => show 0 + 1 * (x 0).val = (x 0).val; omega
        | ⟨1, _⟩ => show 0 + 1 * (x 1).val = (x 1).val % 256; omega
      · rw [View.readAt_full, h3]
        exact congrArg lam (funext fun a => Fin.ext (by match a with | ⟨0, _⟩ => rfl | ⟨1, _⟩ => rfl))
    iexists _, _, _, _, _, _, _, _
    isplitr
    swap
    · isplitl [H3]; · iexact H3
      isplitl [H4]; · iexact H4
      isplitl [H7]; · iexact H7
      isplitl [H8]; · iexact H8
      isplitl [H5]; · iexact H5
      isplitl [H6]; · iexact H6
      isplitl [H9]; · iexact H9
      isplitl [H10]; · iexact H10
      isplitl [H11]; · iexact H11
      isplitl [H12]; · iexact H12
      isplitl [H13]; · iexact H13
      isplitl [H14]; · iexact H14
      iexact H15
    · ipureintro
      exact e8
end

end Cert.KernelIdeal.Hand

end
-- ==== Proof.Run.lean ====
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)

section
variable (i : grid0.Coords) (arg3 : Memref sig .tc .smem S1x1 .f32) (harg3 : arg3.IsWhole) (arg4 : Memref sig .tc .vmem S1x1x1024x128 .bf16) (harg4 : arg4.IsWhole) (arg5 : Memref sig .tc .vmem S1x1x8448x128 .bf16) (harg5 : arg5.IsWhole) (arg6 : Memref sig .tc .vmem S1x1x8448x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x768 .f32) (harg10 : arg10.IsWhole) (arg11 : Memref sig .tc .vmem S2048x768 .f32) (harg11 : arg11.IsWhole) (arg12 : Memref sig .tc .vmem S2048x768 .bf16) (harg12 : arg12.IsWhole) (arg13 : Memref sig .tc .vmem S2048x768 .bf16) (harg13 : arg13.IsWhole) (arg14 : Memref sig .tc .vmem S2048x128 .f32) (harg14 : arg14.IsWhole) (arg15 : Memref sig .tc .vmem S2048x256 .f32) (harg15 : arg15.IsWhole)

/-- The body as a triple over the memrefs' ownership: the inputs come back as they were, the output at `outB`. -/
theorem sound_kernel (lam : Vec F S1x1 .f32) (q : Vec F S1x1x1024x128 .bf16) (Kb V : Vec F S1x1x8448x128 .bf16) (g : Vec F S1x128 .f32) (K : PUnit → sProp 𝕄) :
    iprop(owns (c : Thread nD τ) arg3 fullShare lam ∗ owns (c : Thread nD τ) arg4 fullShare q ∗ owns (c : Thread nD τ) arg5 fullShare Kb
      ∗ owns (c : Thread nD τ) arg6 fullShare V ∗ owns (c : Thread nD τ) arg7 fullShare g ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (iprop(owns (c : Thread nD τ) arg3 fullShare lam ∗ owns (c : Thread nD τ) arg4 fullShare q ∗ owns (c : Thread nD τ) arg5 fullShare Kb
      ∗ owns (c : Thread nD τ) arg6 fullShare V ∗ owns (c : Thread nD τ) arg7 fullShare g ∗ owns (c : Thread nD τ) arg8 fullShare (outB lam q Kb V g)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)) -∗ K ⟨⟩))
      ⊢ wp frame (wpE (defs₀ (F := F)) Variants.none (c : Thread nD τ) none) Set.univ
          (cc0_attn i arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  ihave HW := (body c Variants.none i arg3 harg3 arg4 harg4 arg5 harg5 arg6 harg6 arg7 harg7 arg8 harg8 arg9 harg9 arg10 harg10 arg11 harg11 arg12 harg12 arg13 harg13 arg14 harg14 arg15 harg15 lam q Kb V g f3 f4 f5 f6 f7 f8 f9 f10 f11 f12 f13 f14 f15 h3 h4 h5 h6 h7) $$ [H3 H4 H5 H6 H7 H8 H9 H10 H11 H12 H13 H14 H15]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iapply (wp_wand frame (wpE (defs₀ (F := F)) Variants.none (c : Thread nD τ) none) Set.univ) $$ HW
  iintro %u ⟨%g8, %g9, %g10, %g11, %g12, %g13, %g14, %g15, %h8, H3, H4, H7, H8, H5, H6, H9, H10, H11, H12, H13, H14, H15⟩
  iapply Hk
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists g8; isplitr; · ipureintro; exact h8
    iexact H8
  isplitl [H9]
  · iexists _, g9; isplitr; swap; · iexact H9
    · ipureintro; rfl
  isplitl [H10]
  · iexists _, g10; isplitr; swap; · iexact H10
    · ipureintro; rfl
  isplitl [H11]
  · iexists _, g11; isplitr; swap; · iexact H11
    · ipureintro; rfl
  isplitl [H12]
  · iexists _, g12; isplitr; swap; · iexact H12
    · ipureintro; rfl
  isplitl [H13]
  · iexists _, g13; isplitr; swap; · iexact H13
    · ipureintro; rfl
  isplitl [H14]
  · iexists _, g14; isplitr; swap; · iexact H14
    · ipureintro; rfl
  iexists _, g15; isplitr; swap; · iexact H15
  · ipureintro; rfl
end

/-! ## The launch -/

variable (m : (ℓ : Loc nD τ sig) → Buf (Elt F) ℓ) (ρ : Dev nD → PrngReg)

/-- What point `t`'s body writes to the output's staging buffer. -/
def outT (c : Dev nD) (t : Fin cfg0.N) : Vec F S1x1024x128 .bf16 :=
  outB (iblk m c 0 t) (X0_1 m c t) (iblk m c 2 t) (iblk m c 3 t) (iblk m c 4 t)

/-- The proof data of the one pipeline on core `c`: each input's buffer keeps its block, the output's is `outT`. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => outT m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The invariant, conjunct by conjunct: the seven scratch buffers at some contents, and the generator register. -/
theorem Phi_eq (c : Dev nD) : (Pipeline.ΦA spec0 c : sProp 𝕄)
    = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)) ∗ (∃ r, prngReg c r)) := by
  unfold Pipeline.ΦA
  rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5]
  unfold outT
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ _ _ _ _ (iblk m c 0 t) (X0_1 m c t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hg]
  · isplitr [Hg]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the run ends with the output array at what the points wrote, the rest as found, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame with the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Soft.lean ====
/- Real mathematics of the softmax in chunks: sums of powers of two against a running maximum, and the softmax average they
   give whatever the running maximum is. Nothing here mentions a program. -/
module

public import Idealize.ShloMosaic.PureOps.Ideal.Laws

@[expose] public section

noncomputable section

namespace Cert.Soft

open Idealize.ShloMosaic
open scoped BigOperators

/-- The softmax average of the values `v` under the scores `s`. -/
def avg {ι : Type} [Fintype ι] (s v : ι → ℝ) : ℝ := (∑ k, Real.exp (s k) * v k) / ∑ k, Real.exp (s k)

/-- The first `n` chunks' sum of `2 ^ (score - m) · v`. -/
def part (s v : ℕ → ℝ) (m : ℝ) (n : ℕ) : ℝ := ∑ j ∈ Finset.range (n * 768), Real.rpow 2 (s j - m) * v j

/-- Two to the power of a sum. -/
theorem rpow_two_add (x y : ℝ) : Real.rpow 2 (x + y) = Real.rpow 2 x * Real.rpow 2 y :=
  Real.rpow_add (by norm_num) x y

/-- One chunk's step of the running sum: the old sum rescaled to the new maximum, and the new chunk. -/
theorem part_succ (s v : ℕ → ℝ) (m m' : ℝ) (n : ℕ) :
    Real.rpow 2 (m - m') * part s v m n + ∑ k : Fin 768, Real.rpow 2 (s (n * 768 + k.val) - m') * v (n * 768 + k.val)
      = part s v m' (n + 1) := by
  unfold part
  rw [Nat.succ_mul, Finset.sum_range_add, Finset.mul_sum, ← Finset.sum_range (fun k => Real.rpow 2 (s (n * 768 + k) - m') * v (n * 768 + k))]
  congr 1
  refine Finset.sum_congr rfl fun j _ => ?_
  rw [← mul_assoc, ← rpow_two_add]
  congr 2; ring

/-- A power of two is the exponential of the exponent times the logarithm of two. -/
theorem rpow_two_eq (x : ℝ) : Real.rpow 2 x = Real.exp (Real.log 2 * x) := Real.rpow_def_of_pos (by norm_num) x

theorem log_two_ne : Real.log 2 ≠ 0 := (Real.log_pos (by norm_num)).ne'

/-- The quotient of the two sums over every chunk is the softmax average, whatever the maximum subtracted: the keys in any
    order `σ`, the scores divided by the logarithm of two. -/
theorem part_div (s v : ℕ → ℝ) (m : ℝ) (σ : Equiv.Perm (Fin 8448)) (s' v' : Fin 8448 → ℝ)
    (hs : ∀ j : Fin 8448, s j.val = s' (σ j) / Real.log 2) (hv : ∀ j : Fin 8448, v j.val = v' (σ j)) :
    part s v m 11 / part s (fun _ => 1) m 11 = avg s' v' := by
  have h1 : ∀ w : ℕ → ℝ, ∀ w' : Fin 8448 → ℝ, (∀ j : Fin 8448, w j.val = w' (σ j)) →
      part s w m 11 = Real.exp (-(Real.log 2 * m)) * ∑ k, Real.exp (s' k) * w' k := by
    intro w w' hw
    unfold part
    rw [show 11 * 768 = 8448 from rfl, Finset.sum_range (fun j => Real.rpow 2 (s j - m) * w j), Finset.mul_sum,
      ← Equiv.sum_comp σ (fun k => Real.exp (-(Real.log 2 * m)) * (Real.exp (s' k) * w' k))]
    refine Finset.sum_congr rfl fun j _ => ?_
    rw [hs, hw, rpow_two_eq, ← mul_assoc, ← Real.exp_add]
    congr 2
    field_simp [log_two_ne]
    ring
  rw [h1 v v' hv, h1 (fun _ => 1) (fun _ => 1) (fun _ => rfl)]
  unfold avg
  rw [mul_div_mul_left _ _ (Real.exp_pos _).ne']
  simp only [mul_one]

/-- The sum of exponentials over every chunk is positive. -/
theorem part_one_pos (s : ℕ → ℝ) (m : ℝ) (n : ℕ) (hn : 0 < n) : 0 < part s (fun _ => 1) m n := by
  unfold part
  refine Finset.sum_pos (fun j _ => by rw [mul_one]; exact Real.rpow_pos_of_pos (by norm_num) _) ⟨0, Finset.mem_range.mpr (by omega)⟩

/-- A sum of exponentials is positive. -/
theorem sum_exp_pos {ι : Type} [Fintype ι] [Nonempty ι] (s : ι → ℝ) : 0 < ∑ k, Real.exp (s k) :=
  Finset.sum_pos (fun k _ => Real.exp_pos _) Finset.univ_nonempty

/-- The softmax written with a maximum subtracted, two of them combined and summed against the values, is the combination of
    the two softmax averages. -/
theorem diff_avg {ι : Type} [Fintype ι] [Nonempty ι] (s0 s1 v : ι → ℝ) (m0 m1 lam : ℝ) :
    ∑ k, (Real.exp (s0 k - m0) / (∑ j, Real.exp (s0 j - m0)) - lam * (Real.exp (s1 k - m1) / ∑ j, Real.exp (s1 j - m1))) * v k
      = avg s0 v - lam * avg s1 v := by
  have h : ∀ (s : ι → ℝ) (m : ℝ), ∑ k, Real.exp (s k - m) / (∑ j, Real.exp (s j - m)) * v k = avg s v := by
    intro s m
    unfold avg
    simp only [Real.exp_sub]
    rw [← Finset.sum_div]
    conv_rhs => rw [Finset.sum_div]
    refine Finset.sum_congr rfl fun k _ => ?_
    have h1 := (sum_exp_pos s).ne'
    have h2 := (Real.exp_pos m).ne'
    field_simp
  rw [← h s0 m0, ← h s1 m1, Finset.mul_sum, ← Finset.sum_sub_distrib (s := Finset.univ)]
  refine Finset.sum_congr rfl fun k _ => ?_
  ring

/-! ## Extended reals that are reals -/

/-- A sum of reals, as extended reals. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The maximum of finitely many reals and `-∞` or a real, one real at least, is a real. -/
theorem fold_max_real {ι : Type} (t : Finset ι) (f : ι → ℝ) (b : EReal) (hb : b ≠ ⊤) (h : t.Nonempty) :
    ∃ r : ℝ, t.fold max b (fun i => ((f i : ℝ) : EReal)) = (r : EReal) := by
  classical
  have key : ∀ t : Finset ι, t.fold max b (fun i => ((f i : ℝ) : EReal)) ≠ ⊤ := by
    intro t
    induction t using Finset.induction_on with
    | empty => simpa using hb
    | insert a t ha ih =>
      rw [Finset.fold_insert ha]
      rcases max_choice ((f a : ℝ) : EReal) (t.fold max b fun i => ((f i : ℝ) : EReal)) with e | e <;> rw [e]
      · exact EReal.coe_ne_top _
      · exact ih
  obtain ⟨a, ha⟩ := h
  have hbot : t.fold max b (fun i => ((f i : ℝ) : EReal)) ≠ ⊥ := by
    intro e
    have : ((f a : ℝ) : EReal) ≤ t.fold max b (fun i => ((f i : ℝ) : EReal)) := by
      rw [Finset.le_fold_max]; exact Or.inr ⟨a, ha, le_rfl⟩
    rw [e] at this
    exact absurd (le_bot_iff.mp this) (EReal.coe_ne_bot _)
  exact ⟨_, (EReal.coe_toReal (key t) hbot).symm⟩

/-- A quotient of reals by a real that is not zero. -/
theorem div_coe_coe (a b : ℝ) (hb : b ≠ 0) : Ideal.div (a : EReal) (b : EReal) = ((a / b : ℝ) : EReal) := by
  rw [Ideal.div_coe hb, ← EReal.coe_mul]; congr 1; field_simp

theorem exp_coe (a : ℝ) : Ideal.exp (a : EReal) = ((Real.exp a : ℝ) : EReal) := rfl
theorem exp2_coe (a : ℝ) : Ideal.exp2 (a : EReal) = ((Real.rpow 2 a : ℝ) : EReal) := rfl
theorem log_coe (a : ℝ) (h : 0 < a) : Ideal.log (a : EReal) = ((Real.log a : ℝ) : EReal) := by
  show (if a ≤ 0 then ⊥ else ((Real.log a : ℝ) : EReal)) = _
  rw [if_neg (not_le.mpr h)]

/-- An extended real whose absolute value is below `+∞` is a real. -/
theorem real_of_abs_lt {x : EReal} (h : max x (-x) < ⊤) : ((x.toReal : ℝ) : EReal) = x := by
  refine EReal.coe_toReal (fun e => ?_) (fun e => ?_)
  · rw [e] at h; simp at h
  · rw [e] at h; simp at h

end Cert.Soft
end
-- ==== Proof.KVal.lean ====
/- The kernel's output block over the extended reals. Where the block's queries, keys and values are reals, the running sums
   of the chunks are real sums of powers of two, and an output row is the normed difference of two softmax averages. -/
module

public import proofs.«01_k».proof.Proof.Body
public import proofs.«01_k».proof.Proof.Soft
public import Idealize.ShloMosaic.Lib.Pointwise
public import Idealize.ShloMosaic.Lib.Pointwise.IndexBridge

@[expose] public section

set_option maxRecDepth 16384

noncomputable section

namespace Cert.KernelIdeal.Hand

open Cert.KernelIdeal Cert.KernelIdeal.Gen
open Idealize.ShloMosaic Cert.Soft
open scoped BigOperators

/-- What both programs do to a row `o` of averages: divide by the root of the mean square plus epsilon, scale by `g` and by 0.8. -/
def tail (o g : Fin 128 → EReal) (d : Fin 128) : EReal :=
  o d * Ideal.rsqrt (Ideal.div (∑ x, o x * o x) (Ideal.ofBits .f32 1124073472#32) + Ideal.ofBits .f32 897988541#32) * g d
    * Ideal.ofBits .f32 1061997773#32

/-- The epilogue at an index: the two halves' quotients combined, then `tail`. -/
theorem epi_apply (lam : EReal) (A : Vec Ideal S2048x256 .f32) (g : Vec Ideal S1x128 .f32) (r : Fin 1024) (d : Fin 128) :
    epi (F := Ideal) lam A g (ix3 0 r d) = tail (fun x =>
      A (ix2 (⟨r.val, by omega⟩ : Fin 2048) (⟨x.val, by omega⟩ : Fin 256)) * Ideal.div 1 (A (ix2 (⟨r.val, by omega⟩ : Fin 2048) (128 : Fin 256)))
      - lam * (A (ix2 (⟨1024 + r.val, by omega⟩ : Fin 2048) (⟨x.val, by omega⟩ : Fin 256)) * Ideal.div 1 (A (ix2 (⟨1024 + r.val, by omega⟩ : Fin 2048) (128 : Fin 256)))))
      (fun x => g (ix2 0 x)) d := by
  have h : ∀ x : Fin 128, (⟨x.val % 256, Nat.mod_lt _ (by decide)⟩ : Fin 256) = ⟨x.val, by omega⟩ :=
    fun x => Fin.ext (Nat.mod_eq_of_lt (by have := x.isLt; omega))
  pointwise [epi, k0_pay1, k0_pay349]
  simp only [h, ix2_eq_valueIdx]
  rfl

/-- The masked test of a lane below 64. -/
theorem slt64 : ∀ d : Fin 128, IntOp.cmpi .slt (BitVec.ofNat 32 d.val) 64#32 = if d.val < 64 then 1#1 else 0#1 := by decide
theorem sge64 : ∀ d : Fin 128, IntOp.cmpi .sge (BitVec.ofNat 32 d.val) 64#32 = if d.val < 64 then 0#1 else 1#1 := by decide

/-- The first half of the query scratch keeps the first component's lanes. -/
theorem pay229_apply (q : Vec Ideal S1x1x1024x128 .bf16) (r : Fin 1024) (d : Fin 128) :
    k0_pay229 q (ix2 r d) = if d.val < 64 then q (ix4 0 0 r d) else (0 : EReal) := by
  pointwise [k0_pay229, k0_pay227, k0_pay228]
  rw [slt64]
  split <;> rfl

/-- The second half keeps the second component's lanes. -/
theorem pay230_apply (q : Vec Ideal S1x1x1024x128 .bf16) (r : Fin 1024) (d : Fin 128) :
    k0_pay230 q (ix2 r d) = if d.val < 64 then (0 : EReal) else q (ix4 0 0 r d) := by
  pointwise [k0_pay230, k0_pay227, k0_pay228]
  rw [sge64]
  split <;> rfl

/-- The query scratch in reals. -/
def qf (x : Fin 1024 → Fin 128 → ℝ) (r : Fin 2048) (l : Fin 128) : ℝ :=
  if h : r.val < 1024 then (if l.val < 64 then x ⟨r.val, h⟩ l else 0)
  else (if l.val < 64 then 0 else x ⟨r.val % 1024, Nat.mod_lt _ (by decide)⟩ l)

theorem Qs_real (q : Vec Ideal S1x1x1024x128 .bf16) (x : Fin 1024 → Fin 128 → ℝ)
    (hq : ∀ r l, q (ix4 0 0 r l) = ((x r l : ℝ) : EReal)) (r : Fin 2048) (l : Fin 128) :
    Qs (F := Ideal) q (ix2 r l) = ((qf x r l : ℝ) : EReal) := by
  by_cases h : r.val < 1024
  · refine (Qs_lo q (ix2 r l) h).trans ?_
    refine (congrArg (k0_pay229 q) (ix2_eq_valueIdx _ _).symm).trans ?_
    refine (pay229_apply q ⟨r.val, h⟩ l).trans ?_
    unfold qf
    rw [dif_pos h]
    split
    · exact hq _ _
    · rfl
  · refine (Qs_hi q (ix2 r l) h).trans ?_
    refine (congrArg (k0_pay230 q) (ix2_eq_valueIdx _ _).symm).trans ?_
    refine (pay230_apply q ⟨r.val % 1024, Nat.mod_lt _ (by decide)⟩ l).trans ?_
    unfold qf
    rw [dif_neg h]
    split
    · rfl
    · exact hq _ _

section
variable (K V : Vec Ideal S1x1x8448x128 .bf16) (Q : Vec Ideal S2048x128 .bf16)
variable (kf vf : Fin 8448 → Fin 128 → ℝ) (qq : Fin 2048 → Fin 128 → ℝ)
variable (hK : ∀ j l, K (ix4 0 0 j l) = ((kf j l : ℝ) : EReal)) (hV : ∀ j l, V (ix4 0 0 j l) = ((vf j l : ℝ) : EReal))
variable (hQ : ∀ r l, Q (ix2 r l) = ((qq r l : ℝ) : EReal))

/-- Key number `n`, any natural number taken modulo the number of keys. -/
def key (n : ℕ) : Fin 8448 := ⟨n % 8448, Nat.mod_lt _ (by decide)⟩

/-- The score of row `r` and key `n` in reals. -/
def sc (r : Fin 2048) (n : ℕ) : ℝ := ∑ l, qq r l * kf (key n) l

/-- The value column `c` at key `n`: the values, then ones. -/
def vx (c : Fin 256) (n : ℕ) : ℝ := if h : c.val < 128 then vf (key n) ⟨c.val, h⟩ else 1

include hK hQ in
theorem Sc_real (n : ℕ) (r : Fin 2048) (k : Fin 768) : Sc K Q n (ix2 r k) = ((sc kf qq r (n * 768 + k.val) : ℝ) : EReal) := by
  unfold Sc
  pointwise [k0_pay2]
  unfold sc
  rw [← coe_sum]
  refine Finset.sum_congr rfl fun l _ => ?_
  rw [hQ, EReal.coe_mul]
  congr 1
  exact (congrArg K (ix4_eq_valueIdx _ _ _ _).symm).trans (hK _ _)

theorem pay4_Mx (n : ℕ) (r : Fin 2048) (l : Fin 128) : k0_pay4 (Mx K Q n) (Sc K Q n) (ix2 r l) = Mx K Q (n + 1) (ix2 r l) := by
  show _ = k0_pay6 (Mx K Q n) (Sc K Q n) (ix2 r l)
  pointwise [k0_pay6]

theorem ninf : Ideal.ofBits .f32 4286578688#32 = ⊥ := by
  simp [Ideal.ofBits, Ideal.ieee]

theorem m1e30 : ∃ b : ℝ, Ideal.ofBits .f32 0xF149F2CA#32 = (b : EReal) := by
  refine ⟨(Ideal.ofBits .f32 0xF149F2CA#32).toReal, (EReal.coe_toReal ?_ ?_).symm⟩ <;>
  · simp [Ideal.ofBits, Ideal.ieee, -EReal.coe_mul, -EReal.coe_neg]

include hK hQ in
theorem Mx_real (n : ℕ) : ∃ M : Fin 2048 → ℝ, ∀ r l, Mx K Q n (ix2 r l) = ((M r : ℝ) : EReal) := by
  induction n with
  | zero =>
    obtain ⟨b, hb⟩ := m1e30
    refine ⟨fun _ => b, fun r l => ?_⟩
    show k0_pay231 (ix2 r l) = _
    pointwise [k0_pay231]
    exact hb
  | succ n ih =>
    obtain ⟨M, hM⟩ := ih
    have h : ∀ r : Fin 2048, ∃ m : ℝ, Finset.univ.fold max (Ideal.ofBits .f32 4286578688#32)
        (fun x : Fin 768 => Sc K Q n (ix2 r x)) = (m : EReal) := by
      intro r
      simp only [Sc_real K Q kf qq hK hQ]
      exact fold_max_real _ _ _ (by rw [ninf]; exact bot_ne_top) ⟨0, Finset.mem_univ _⟩
    choose m hm using h
    refine ⟨fun r => max (M r) (m r), fun r l => ?_⟩
    rw [← pay4_Mx]
    pointwise [k0_pay4]
    rw [hM, hm]
    exact (EReal.coe_strictMono.monotone.map_max).symm

/-- The running maxima in reals. -/
def mx (n : ℕ) (r : Fin 2048) : ℝ := (Mx K Q n (ix2 r 0)).toReal

include hK hQ in
theorem Mx_eq (n : ℕ) (r : Fin 2048) (l : Fin 128) : Mx K Q n (ix2 r l) = ((mx K Q n r : ℝ) : EReal) := by
  obtain ⟨M, hM⟩ := Mx_real K Q kf qq hK hQ n
  unfold mx
  rw [hM, hM, EReal.toReal_coe]

include hK hQ in
theorem Pb_real (n : ℕ) (r : Fin 2048) (k : Fin 768) :
    Pb K Q n (ix2 r k) = ((Real.rpow 2 (sc kf qq r (n * 768 + k.val) - mx K Q (n + 1) r) : ℝ) : EReal) := by
  show Ideal.exp2 (Sc K Q n (ix2 r k) - Mx K Q (n + 1) (ValueIdx.ix2 r ⟨k.val % 128, Nat.mod_lt _ (by decide)⟩)) = _
  rw [Sc_real K Q kf qq hK hQ, ← ix2_eq_valueIdx, Mx_eq K Q kf qq hK hQ, ← EReal.coe_sub, exp2_coe]

include hV in
theorem vext_real (n : ℕ) (k : Fin 768) (c : Fin 256) :
    k0_pay3 (chunk V n) (ix2 k c) = ((vx vf c (n * 768 + k.val) : ℝ) : EReal) := by
  pointwise [k0_pay3]
  unfold vx
  split
  · exact (congrArg V (ix4_eq_valueIdx _ _ _ _).symm).trans (hV _ _)
  · rfl

include hK hQ in
theorem alpha_real (n : ℕ) (r : Fin 2048) (c : Fin 256) :
    k0_pay115 (k0_pay5 (Mx K Q n) (Sc K Q n)) (ix2 r c) = ((Real.rpow 2 (mx K Q n r - mx K Q (n + 1) r) : ℝ) : EReal) := by
  have h : ∀ l : Fin 128, k0_pay5 (Mx K Q n) (Sc K Q n) (ix2 r l) = ((Real.rpow 2 (mx K Q n r - mx K Q (n + 1) r) : ℝ) : EReal) := by
    intro l
    show Ideal.exp2 (Mx K Q n (ix2 r l) - k0_pay4 (Mx K Q n) (Sc K Q n) (ix2 r l)) = _
    rw [pay4_Mx, Mx_eq K Q kf qq hK hQ, Mx_eq K Q kf qq hK hQ, ← EReal.coe_sub, exp2_coe]
  pointwise [k0_pay115]
  split <;> exact h _

include hK hV hQ in
/-- The accumulator before chunk `n` in reals. -/
theorem Ac_real (n : ℕ) (r : Fin 2048) (c : Fin 256) :
    Ac K V Q n (ix2 r c) = ((part (sc kf qq r) (vx vf c) (mx K Q n r) n : ℝ) : EReal) := by
  induction n with
  | zero =>
    show k0_pay232 (ix2 r c) = _
    pointwise [k0_pay232]
    simp [part]
  | succ n ih =>
    show k0_pay235 (k0_pay3 (chunk V n)) (k0_pay115 (k0_pay5 (Mx K Q n) (Sc K Q n))) (Ac K V Q n) (Pb K Q n) (ix2 r c) = _
    pointwise [k0_pay235]
    rw [alpha_real K Q kf qq hK hQ, ih]
    simp only [Pb_real K Q kf qq hK hQ, vext_real V vf hV]
    simp only [← EReal.coe_mul, coe_sum, ← EReal.coe_add]
    rw [part_succ]
end

/-- A sum over the lanes that keeps the first component's. -/
theorem sum_lo (x k : Fin 128 → ℝ) : ∑ l : Fin 128, (if l.val < 64 then x l else 0) * k l
    = ∑ d : Fin 64, x ⟨d.val, by omega⟩ * k ⟨d.val, by omega⟩ := by
  rw [Fin.sum_univ_two_halves 64 64 rfl]
  have h : ∀ d : Fin 64, ¬ (64 + d.val < 64) := fun d => by omega
  simp only [Fin.is_lt, if_true, h, if_false, zero_mul, Finset.sum_const_zero, add_zero]

/-- A sum over the lanes that keeps the second component's. -/
theorem sum_hi (x k : Fin 128 → ℝ) : ∑ l : Fin 128, (if l.val < 64 then 0 else x l) * k l
    = ∑ d : Fin 64, x ⟨64 + d.val, by omega⟩ * k ⟨64 + d.val, by omega⟩ := by
  rw [Fin.sum_univ_two_halves 64 64 rfl]
  have h : ∀ d : Fin 64, ¬ (64 + d.val < 64) := fun d => by omega
  simp only [Fin.is_lt, if_true, h, if_false, zero_mul, Finset.sum_const_zero, zero_add]

/-- One half's quotient is a softmax average. -/
theorem half_real (K V : Vec Ideal S1x1x8448x128 .bf16) (Q : Vec Ideal S2048x128 .bf16)
    (kf vf : Fin 8448 → Fin 128 → ℝ) (qq : Fin 2048 → Fin 128 → ℝ)
    (hK : ∀ j l, K (ix4 0 0 j l) = ((kf j l : ℝ) : EReal)) (hV : ∀ j l, V (ix4 0 0 j l) = ((vf j l : ℝ) : EReal))
    (hQ : ∀ r l, Q (ix2 r l) = ((qq r l : ℝ) : EReal)) (σ : Equiv.Perm (Fin 8448)) (r : Fin 2048) (s' v' : Fin 8448 → ℝ) (d : Fin 128)
    (hs : ∀ j, ∑ l, qq r l * kf j l = s' (σ j) / Real.log 2) (hv : ∀ j, vf j d = v' (σ j)) :
    Ac K V Q 11 (ix2 r (⟨d.val, by omega⟩ : Fin 256)) * Ideal.div 1 (Ac K V Q 11 (ix2 r (128 : Fin 256)))
      = ((avg s' v' : ℝ) : EReal) := by
  have hk : ∀ j : Fin 8448, key j.val = j := fun j => Fin.ext (Nat.mod_eq_of_lt j.isLt)
  have h1 : vx vf (128 : Fin 256) = fun _ => 1 := by
    funext n; unfold vx; rw [dif_neg (by decide)]
  rw [Ac_real K V Q kf vf qq hK hV hQ, Ac_real K V Q kf vf qq hK hV hQ, h1]
  have hp := part_one_pos (sc kf qq r) (mx K Q 11 r) 11 (by decide)
  rw [show (1 : EReal) = ((1 : ℝ) : EReal) from rfl, div_coe_coe _ _ hp.ne', ← EReal.coe_mul]
  rw [← part_div (sc kf qq r) (vx vf (⟨d.val, by omega⟩ : Fin 256)) (mx K Q 11 r) σ s' v'
    (fun j => by unfold sc; rw [hk]; exact hs j) (fun j => by unfold vx; rw [dif_pos d.isLt, hk]; exact hv j)]
  congr 1
  ring

/-- The block one grid point writes: at row `r` and lane `d`, `tail` of the difference of the two components' softmax averages. -/
theorem outB_val (lam : Vec Ideal S1x1 .f32) (q : Vec Ideal S1x1x1024x128 .bf16) (K V : Vec Ideal S1x1x8448x128 .bf16)
    (g : Vec Ideal S1x128 .f32) (lr : ℝ) (x : Fin 1024 → Fin 128 → ℝ) (kf vf : Fin 8448 → Fin 128 → ℝ)
    (hl : lam (ix2 0 0) = (lr : EReal)) (hq : ∀ r l, q (ix4 0 0 r l) = ((x r l : ℝ) : EReal))
    (hK : ∀ j l, K (ix4 0 0 j l) = ((kf j l : ℝ) : EReal)) (hV : ∀ j l, V (ix4 0 0 j l) = ((vf j l : ℝ) : EReal))
    (σ : Equiv.Perm (Fin 8448)) (r : Fin 1024) (s0 s1 : Fin 8448 → ℝ) (v' : Fin 128 → Fin 8448 → ℝ)
    (hs0 : ∀ j, ∑ d : Fin 64, x r ⟨d.val, by omega⟩ * kf j ⟨d.val, by omega⟩ = s0 (σ j) / Real.log 2)
    (hs1 : ∀ j, ∑ d : Fin 64, x r ⟨64 + d.val, by omega⟩ * kf j ⟨64 + d.val, by omega⟩ = s1 (σ j) / Real.log 2)
    (hv : ∀ j d, vf j d = v' d (σ j)) (d : Fin 128) :
    outB lam q K V g (ix3 0 r d)
      = tail (fun d => ((avg s0 (v' d) - lr * avg s1 (v' d) : ℝ) : EReal)) (fun d => g (ix2 0 d)) d := by
  unfold outB
  rw [epi_apply]
  congr 1
  funext e
  rw [half_real K V (Qs q) kf vf (qf x) hK hV (Qs_real q x hq) σ _ s0 (v' e) e (fun j => ?_) (fun j => hv j e),
    half_real K V (Qs q) kf vf (qf x) hK hV (Qs_real q x hq) σ _ s1 (v' e) e (fun j => ?_) (fun j => hv j e)]
  · rw [show lam (ValueIdx.ix2 (n0 := 1) (n1 := 1) 0 0) = (lr : EReal) from
      (congrArg lam (ix2_eq_valueIdx _ _).symm).trans hl, ← EReal.coe_mul, ← EReal.coe_sub]
  · rw [← hs1 j, ← sum_hi]
    refine Finset.sum_congr rfl fun l _ => ?_
    unfold qf
    rw [dif_neg (by simp)]
    have h : (1024 + r.val) % 1024 = r.val := by omega
    simp only [h]
  · rw [← hs0 j, ← sum_lo]
    refine Finset.sum_congr rfl fun l _ => ?_
    unfold qf
    rw [dif_pos r.isLt]

end Cert.KernelIdeal.Hand
end
-- ==== Proof.HostVal.lean ====
/- What the kernel's windows read. -/
module

public import proofs.«01_k».proof.Proof.Run
public import proofs.«01_k».proof.Proof.KVal
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Cert.Soft
open scoped BigOperators

variable (m : (ℓ : Loc nD τ sig) → Buf (Elt Ideal) ℓ) (c : Dev nD)

/-- The arguments, as arrays. -/
abbrev aq : Vec Ideal S2x4x2x8192x64 .f32 := m (c, Proc.devRef .tc main_arg0)
abbrev ak : Vec Ideal S2x4x2x8448x64 .f32 := m (c, Proc.devRef .tc main_arg1)
abbrev av : Vec Ideal S2x4x8448x128 .f32 := m (c, Proc.devRef .tc main_arg2)
abbrev a3 : Vec Ideal S1x64 .f32 := m (c, Proc.devRef .tc main_arg3)
abbrev a4 : Vec Ideal S1x64 .f32 := m (c, Proc.devRef .tc main_arg4)
abbrev a5 : Vec Ideal S1x64 .f32 := m (c, Proc.devRef .tc main_arg5)
abbrev a6 : Vec Ideal S1x64 .f32 := m (c, Proc.devRef .tc main_arg6)
abbrev ag : Vec Ideal S1x128 .f32 := m (c, Proc.devRef .tc main_arg7)

/-- Where the kernel's key number `j` stands among the keys: the context comes last in the kernel, first in the arguments. -/
def sigma : Equiv.Perm (Fin 8448) where
  toFun j := if h : j.val < 8192 then ⟨256 + j.val, by omega⟩ else ⟨j.val - 8192, by omega⟩
  invFun j := if h : j.val < 256 then ⟨8192 + j.val, by omega⟩ else ⟨j.val - 256, by omega⟩
  left_inv j := by
    have := j.isLt
    apply Fin.ext
    by_cases h : j.val < 8192
    · simp [h]
    · have : j.val - 8192 < 256 := by omega
      simp only [h, dif_neg, not_false_iff, this, dif_pos]; omega
  right_inv j := by
    have := j.isLt
    apply Fin.ext
    by_cases h : j.val < 256
    · simp [h]
    · have : j.val - 256 < 8192 := by omega
      simp only [h, dif_neg, not_false_iff, this, dif_pos]; omega

/-- The scalar lambda the launch reads. -/
theorem lam_val : (V m c main_v12 : Vec Ideal S1x1 .f32) (ix2 0 0)
    = Ideal.exp (∑ x, a3 m c (ix2 0 x) * a4 m c (ix2 0 x)) - Ideal.exp (∑ x, a5 m c (ix2 0 x) * a6 m c (ix2 0 x))
      + Ideal.ofBits .f32 1045220557#32 := by
  unfold V
  after_reads_at

/-- The norm's scale the launch reads. -/
theorem g_val (d : Fin 128) : (V m c main_v32 : Vec Ideal S1x128 .f32) (ix2 0 d) = ag m c (ix2 0 d) := by
  unfold V
  after_reads_at

/-- The queries the launch reads. -/
theorem q_val (b : Fin 2) (h : Fin 4) (r : Fin 8192) (d : Fin 128) : (V m c main_v30 : Vec Ideal S2x12x8448x128 .bf16)
    (ix4 b (⟨h.val, by omega⟩ : Fin 12) (⟨r.val, by omega⟩ : Fin 8448) d)
    = aq m c (ix5 b h (⟨d.val / 64, by omega⟩ : Fin 2) r (⟨d.val % 64, Nat.mod_lt _ (by decide)⟩ : Fin 64))
      * Ideal.div (Ideal.ofBits .f32 0x3E000000#32) (Ideal.log (Ideal.ofBits .f32 0x40000000#32)) := by
  unfold V
  after_reads_at
  after_reads_at
  after_reads_at

/-- The keys the launch reads. -/
theorem k_val (b : Fin 2) (h : Fin 4) (r : Fin 8448) (d : Fin 128) : (V m c main_v30 : Vec Ideal S2x12x8448x128 .bf16)
    (ix4 b (⟨4 + h.val, by omega⟩ : Fin 12) r d)
    = ak m c (ix5 b h (⟨d.val / 64, by omega⟩ : Fin 2) (sigma r) (⟨d.val % 64, Nat.mod_lt _ (by decide)⟩ : Fin 64)) := by
  unfold V
  after_reads_at
  after_reads_at
  by_cases hr : r.val < 8192
  · rw [dif_pos hr]
    after_reads_at
    simp only [sigma, Equiv.coe_fn_mk, dif_pos hr]
  · rw [dif_neg hr]
    after_reads_at
    simp only [sigma, Equiv.coe_fn_mk, dif_neg hr]

/-- The values the launch reads. -/
theorem v_val (b : Fin 2) (h : Fin 4) (r : Fin 8448) (d : Fin 128) : (V m c main_v30 : Vec Ideal S2x12x8448x128 .bf16)
    (ix4 b (⟨8 + h.val, by omega⟩ : Fin 12) r d) = av m c (ix4 b h (sigma r) d) := by
  unfold V
  after_reads_at
  rw [dif_neg (by omega), dif_neg (by omega)]
  after_reads_at
  have h8 : (⟨8 + h.val - 4 - 4, by omega⟩ : Fin 4) = h := Fin.ext (by simp; omega)
  by_cases hr : r.val < 8192
  · rw [dif_pos hr]
    simp only [sigma, Equiv.coe_fn_mk, dif_pos hr, h8]
  · rw [dif_neg hr]
    simp only [sigma, Equiv.coe_fn_mk, dif_neg hr, h8]

end Cert.KernelIdeal.Hand
end
-- ==== Proof.Arr.lean ====
/- The kernel's result array: each grid point writes one block, and the blocks tile the array. -/
module

public import proofs.«01_k».proof.Proof.HostVal

@[expose] public section

set_option maxRecDepth 16384

noncomputable section

namespace Cert.KernelIdeal.Hand

open Cert.KernelIdeal Cert.KernelIdeal.Gen
open Idealize.ShloMosaic Idealize.ShloMosaic.TcCoe Cert.Soft
open scoped BigOperators

variable (m : (ℓ : Loc nD τ sig) → Buf (Elt Ideal) ℓ) (c : Dev nD)

/-- The windows' block indices at every point. -/
theorem idx : ∀ t : Fin cfg0.N, win0_0.index t = ![0, 0] ∧ win0_1.index t = ![t.val / 32, t.val / 8 % 4, t.val % 8, 0]
    ∧ win0_2.index t = ![t.val / 32, 4 + t.val / 8 % 4, 0, 0] ∧ win0_3.index t = ![t.val / 32, 8 + t.val / 8 % 4, 0, 0]
    ∧ win0_4.index t = ![0, 0] ∧ win0_5.index t = ![t.val / 32, t.val % 8, t.val / 8 % 4] :=
  (by decide +kernel : ∀ t : Fin grid0.N, _)

/-- A point's batch, head and block of rows. -/
def tb (t : Fin cfg0.N) : Fin 2 := ⟨t.val / 32, by have h : t.val < 64 := t.isLt; omega⟩
def th (t : Fin cfg0.N) : Fin 4 := ⟨t.val / 8 % 4, by omega⟩
def ti (t : Fin cfg0.N) : Fin 8 := ⟨t.val % 8, by omega⟩

theorem blk0 (t : Fin cfg0.N) : iblk m c 0 t (ix2 (n0 := 1) (n1 := 1) 0 0) = V m c main_v12 (ix2 (n0 := 1) (n1 := 1) 0 0) := by
  blk_ext [iblk, idx t]

theorem blk4 (t : Fin cfg0.N) (d : Fin 128) : iblk m c 4 t (ix2 (n0 := 1) (n1 := 128) 0 d) = V m c main_v32 (ix2 (n0 := 1) (n1 := 128) 0 d) := by
  blk_ext [iblk, idx t]

theorem blk2 (t : Fin cfg0.N) (j : Fin 8448) (l : Fin 128) : iblk m c 2 t (ix4 (n0 := 1) (n1 := 1) (n2 := 8448) (n3 := 128) 0 0 j l)
    = V m c main_v30 (ix4 (n0 := 2) (n1 := 12) (n2 := 8448) (n3 := 128) (tb t) ⟨4 + (th t).val, by have := (th t).isLt; omega⟩ j l) := by
  blk_ext [iblk, idx t, tb, th]

theorem blk3 (t : Fin cfg0.N) (j : Fin 8448) (l : Fin 128) : iblk m c 3 t (ix4 (n0 := 1) (n1 := 1) (n2 := 8448) (n3 := 128) 0 0 j l)
    = V m c main_v30 (ix4 (n0 := 2) (n1 := 12) (n2 := 8448) (n3 := 128) (tb t) ⟨8 + (th t).val, by have := (th t).isLt; omega⟩ j l) := by
  blk_ext [iblk, idx t, tb, th]

theorem blk1 (t : Fin cfg0.N) (r : Fin 1024) (l : Fin 128) : X0_1 m c t (ix4 (n0 := 1) (n1 := 1) (n2 := 1024) (n3 := 128) 0 0 r l)
    = V m c main_v30 (ix4 (n0 := 2) (n1 := 12) (n2 := 8448) (n3 := 128) (tb t) ⟨(th t).val, by have := (th t).isLt; omega⟩
      ⟨(ti t).val * 1024 + r.val, by have := (ti t).isLt; omega⟩ l) := by
  unfold X0_1 Pipeline.Window.fill
  rw [dif_pos (moved0_1 t _)]
  blk_ext [iblk, idx t, tb, th, ti]

/-- The array after the run is `G` when every point's block is `G`'s there. -/
theorem arr_eq (G : S2x8192x512.Idx → EReal)
    (hG : ∀ (t : Fin cfg0.N) (r : Fin 1024) (d : Fin 128), outT m c t (ix3 (n0 := 1) (n1 := 1024) (n2 := 128) 0 r d)
      = G (ix3 (n0 := 2) (n1 := 8192) (n2 := 512) (tb t) ⟨(ti t).val * 1024 + r.val, by have := (ti t).isLt; omega⟩
        ⟨(th t).val * 128 + d.val, by have := (th t).isLt; omega⟩)) :
    (dats m 0 c).arrAt 5 (cfgs 0).N = G := by
  refine (dats m 0 c).arrAt_eq_of_covers 5 _ (by decide +kernel) fun t hf y => ?_
  blk_simp
  rw [after0_5]
  idx_vars y
  obtain rfl : y0 = 0 := Subsingleton.elim _ _
  refine (hG t y1 y2).trans ?_
  blk_ext [idx t, tb, th, ti]

end Cert.KernelIdeal.Hand
end
-- ==== Proof.RefVal.lean ====
/- The reference's result at an index. -/
module

public import proofs.«01_k».proof.Proof.Gen.ReferenceIdeal.Run
public import proofs.«01_k».proof.Proof.KVal
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Soft
open scoped BigOperators

/-- The scores. -/
def scoreT (A0 : FVec Ideal S2x4x2x8192x64 .f32) (A1 : FVec Ideal S2x4x2x8448x64 .f32) : FVec Ideal S2x4x2x8192x8448 .f32 :=
  mulf (Host.dotGeneral dot_S2x4x2x8192x64_S2x4x2x8448x64_S2x4x2x8192x8448_4_4_3_3_012_012 none A0 A1)
    (broadcastInDim S2x4x2x8192x8448 ![] bcast_S_S2x4x2x8192x8448 (constant S_ .f32 0x3E000000#32))

/-- A row's largest score. -/
def topT (S : FVec Ideal S2x4x2x8192x8448 .f32) : FVec Ideal S2x4x2x8192 .f32 :=
  Host.reduce FloatOps.maximumf S (constant S_ .f32 0xFF800000#32) reducesTo_S2x4x2x8192x8448_S2x4x2x8192_d4 h_S_

/-- A row's maximum. -/
def maxT (R : FVec Ideal S2x4x2x8192 .f32) : FVec Ideal S2x4x2x8192 .f32 :=
  maximumf (broadcastInDim S2x4x2x8192 ![] bcast_S_S2x4x2x8192 (constant S_ .f32 0xFF800000#32)) R

/-- A row's value at every key. -/
def alongT (M : FVec Ideal S2x4x2x8192 .f32) : FVec Ideal S2x4x2x8192x8448 .f32 :=
  broadcastInDim S2x4x2x8192x8448 ![0, 1, 2, 3, 4] bcast_S2x4x2x8192x1_S2x4x2x8192x8448_0_1_2_3_4
    (broadcastInDim S2x4x2x8192x1 ![0, 1, 2, 3] bcast_S2x4x2x8192_S2x4x2x8192x1_0_1_2_3 M)

/-- The exponentials. -/
def expT (S : FVec Ideal S2x4x2x8192x8448 .f32) : FVec Ideal S2x4x2x8192x8448 .f32 := Host.exp (subf S (alongT (maxT (topT S))))

/-- A row's sum. -/
def sumT (E : FVec Ideal S2x4x2x8192x8448 .f32) : FVec Ideal S2x4x2x8192 .f32 :=
  Host.reduceAdd E (constant S_ .f32 0x00000000#32) reducesTo_S2x4x2x8192x8448_S2x4x2x8192_d4 h_S_

/-- The softmax. -/
def softT (E : FVec Ideal S2x4x2x8192x8448 .f32) : FVec Ideal S2x4x2x8192x8448 .f32 := Host.divf E (alongT (sumT E))

/-- The lambda. -/
def lamT (A3 A4 A5 A6 : FVec Ideal S1x64 .f32) : FVec Ideal S_ .f32 :=
  addf (subf (Host.exp (Host.reduceAdd (mulf (shapeCast _ A3 shapeCasts_S1x64_S64) (shapeCast _ A4 shapeCasts_S1x64_S64)) (constant S_ .f32 0x00000000#32) reducesTo_S64_S_d0 h_S_))
    (Host.exp (Host.reduceAdd (mulf (shapeCast _ A5 shapeCasts_S1x64_S64) (shapeCast _ A6 shapeCasts_S1x64_S64)) (constant S_ .f32 0x00000000#32) reducesTo_S64_S_d0 h_S_)))
    (constant S_ .f32 0x3E4CCCCD#32)

/-- The two components combined. -/
def combT (P : FVec Ideal S2x4x2x8192x8448 .f32) (L : FVec Ideal S_ .f32) : FVec Ideal S2x4x8192x8448 .f32 :=
  subf (shapeCast _ (extractStridedSlice S2x4x1x8192x8448 ![0, 0, 0, 0, 0] P slices_S2x4x2x8192x8448_S2x4x1x8192x8448_0_0_0_0_0) shapeCasts_S2x4x1x8192x8448_S2x4x8192x8448)
    (mulf (broadcastInDim S2x4x8192x8448 ![] bcast_S_S2x4x8192x8448 L)
      (shapeCast _ (extractStridedSlice S2x4x1x8192x8448 ![0, 0, 1, 0, 0] P slices_S2x4x2x8192x8448_S2x4x1x8192x8448_0_0_1_0_0) shapeCasts_S2x4x1x8192x8448_S2x4x8192x8448))

/-- The sum against the values. -/
def attT (W : FVec Ideal S2x4x8192x8448 .f32) (A2 : FVec Ideal S2x4x8448x128 .f32) : FVec Ideal S2x4x8192x128 .f32 :=
  Host.dotGeneral dot_S2x4x8192x8448_S2x4x8448x128_S2x4x8192x128_3_2_2_3_01_01 none W A2

/-- The norm, the scales and the heads merged. -/
def outT (O : FVec Ideal S2x4x8192x128 .f32) (A7 : FVec Ideal S1x128 .f32) : FVec Ideal S2x8192x512 .bf16 :=
  truncf .bf16 (shapeCast _ (transpose S2x8192x4x128 [0, 2, 1, 3] (mulf (mulf (mulf O
    (broadcastInDim S2x4x8192x128 ![0, 1, 2, 3] bcast_S2x4x8192x1_S2x4x8192x128_0_1_2_3 (Host.rsqrt (addf (Host.divf
      (broadcastInDim S2x4x8192x1 ![0, 1, 2] bcast_S2x4x8192_S2x4x8192x1_0_1_2 (Host.reduceAdd (mulf O O) (constant S_ .f32 0x00000000#32) reducesTo_S2x4x8192x128_S2x4x8192_d3 h_S_))
      (broadcastInDim S2x4x8192x1 ![] bcast_S_S2x4x8192x1 (constant S_ .f32 0x43000000#32)))
      (broadcastInDim S2x4x8192x1 ![] bcast_S_S2x4x8192x1 (constant S_ .f32 0x358637BD#32))))))
    (broadcastInDim S2x4x8192x128 ![0, 1, 2, 3] bcast_S1x1x1x128_S2x4x8192x128_0_1_2_3 (broadcastInDim S1x1x1x128 ![3] bcast_S128_S1x1x1x128_3 (shapeCast _ A7 shapeCasts_S1x128_S128))))
    (broadcastInDim S2x4x8192x128 ![] bcast_S_S2x4x8192x128 (constant S_ .f32 0x3F4CCCCD#32))) transposes_S2x4x8192x128_S2x8192x4x128_0_2_1_3) shapeCasts_S2x8192x4x128_S2x8192x512) bitsLt_bf16_f32

/-- The lambda of the four vectors. -/
def lamE (x3 x4 x5 x6 : Fin 64 → EReal) : EReal :=
  Ideal.exp (∑ x, x3 x * x4 x) - Ideal.exp (∑ x, x5 x * x6 x) + Ideal.ofBits .f32 1045220557#32

/-- The scale of the scores. -/
theorem eighth : Ideal.ofBits .f32 1040187392#32 = ((1 / 8 : ℝ) : EReal) := by
  simp [Ideal.ofBits, Ideal.ieee, -EReal.coe_mul]
  norm_num

/-- The score of a query and a key in reals. -/
def sr (q : Fin 2 → Fin 4 → Fin 2 → Fin 8192 → Fin 64 → ℝ) (k : Fin 2 → Fin 4 → Fin 2 → Fin 8448 → Fin 64 → ℝ)
    (b : Fin 2) (h : Fin 4) (i : Fin 2) (r : Fin 8192) (j : Fin 8448) : ℝ := (∑ d, q b h i r d * k b h i j d) * (1 / 8)

theorem scoreT_apply (A0 : FVec Ideal S2x4x2x8192x64 .f32) (A1 : FVec Ideal S2x4x2x8448x64 .f32) (b : Fin 2) (h : Fin 4) (i : Fin 2)
    (r : Fin 8192) (j : Fin 8448) : scoreT A0 A1 (ix5 b h i r j) = (∑ d, A0 (ix5 b h i r d) * A1 (ix5 b h i j d)) * Ideal.ofBits .f32 1040187392#32 := by
  pointwise [scoreT]

theorem topT_apply (S : FVec Ideal S2x4x2x8192x8448 .f32) (b : Fin 2) (h : Fin 4) (i : Fin 2) (r : Fin 8192) :
    topT S (ix4 b h i r) = Finset.univ.fold max (Ideal.ofBits .f32 4286578688#32) (fun j => S (ix5 b h i r j)) := by
  pointwise [topT]

theorem maxT_apply (R : FVec Ideal S2x4x2x8192 .f32) (b : Fin 2) (h : Fin 4) (i : Fin 2) (r : Fin 8192) :
    maxT R (ix4 b h i r) = max (Ideal.ofBits .f32 4286578688#32) (R (ix4 b h i r)) := by
  pointwise [maxT]

theorem alongT_apply (M : FVec Ideal S2x4x2x8192 .f32) (b : Fin 2) (h : Fin 4) (i : Fin 2) (r : Fin 8192) (j : Fin 8448) :
    alongT M (ix5 b h i r j) = M (ix4 b h i r) := by
  pointwise [alongT]

theorem expT_apply (S : FVec Ideal S2x4x2x8192x8448 .f32) (b : Fin 2) (h : Fin 4) (i : Fin 2) (r : Fin 8192) (j : Fin 8448) :
    expT S (ix5 b h i r j) = Ideal.exp (S (ix5 b h i r j) - maxT (topT S) (ix4 b h i r)) :=
  congrArg (fun x => Ideal.exp (S (ix5 b h i r j) - x)) (alongT_apply (maxT (topT S)) b h i r j)

theorem sumT_apply (S : FVec Ideal S2x4x2x8192x8448 .f32) (b : Fin 2) (h : Fin 4) (i : Fin 2) (r : Fin 8192) :
    sumT S (ix4 b h i r) = ∑ j, S (ix5 b h i r j) := by
  pointwise [sumT]

theorem softT_apply (E : FVec Ideal S2x4x2x8192x8448 .f32) (b : Fin 2) (h : Fin 4) (i : Fin 2) (r : Fin 8192) (j : Fin 8448) :
    softT E (ix5 b h i r j) = Ideal.div (E (ix5 b h i r j)) (sumT E (ix4 b h i r)) :=
  congrArg (fun x => Ideal.div (E (ix5 b h i r j)) x) (alongT_apply (sumT E) b h i r j)

theorem lamT_apply (A3 A4 A5 A6 : FVec Ideal S1x64 .f32) (y : S_.Idx) :
    lamT A3 A4 A5 A6 y = lamE (fun x => A3 (ix2 0 x)) (fun x => A4 (ix2 0 x)) (fun x => A5 (ix2 0 x)) (fun x => A6 (ix2 0 x)) := by
  pointwise [lamT]
  rfl

theorem combT_apply (P : FVec Ideal S2x4x2x8192x8448 .f32) (L : FVec Ideal S_ .f32) (l : EReal) (hL : ∀ y, L y = l) (b : Fin 2) (h : Fin 4)
    (r : Fin 8192) (j : Fin 8448) : combT P L (ix4 b h r j) = P (ix5 b h 0 r j) - l * P (ix5 b h 1 r j) := by
  pointwise [combT]
  rw [hL]

theorem attT_apply (W : FVec Ideal S2x4x8192x8448 .f32) (A2 : FVec Ideal S2x4x8448x128 .f32) (b : Fin 2) (h : Fin 4)
    (r : Fin 8192) (d : Fin 128) : attT W A2 (ix4 b h r d) = ∑ j, W (ix4 b h r j) * A2 (ix4 b h j d) := by
  pointwise [attT]

theorem outT_apply (O : FVec Ideal S2x4x8192x128 .f32) (A7 : FVec Ideal S1x128 .f32) (b : Fin 2) (r : Fin 8192) (h : Fin 4) (d : Fin 128) :
    outT O A7 (ix3 b r (⟨h.val * 128 + d.val, by omega⟩ : Fin 512))
      = Cert.KernelIdeal.Hand.tail (fun d => O (ix4 b h r d)) (fun d => A7 (ix2 0 d)) d := by
  pointwise [outT]
  rfl

/-- The attention at an index. -/
theorem att_val (A0 : FVec Ideal S2x4x2x8192x64 .f32) (A1 : FVec Ideal S2x4x2x8448x64 .f32) (A2 : FVec Ideal S2x4x8448x128 .f32) (L : FVec Ideal S_ .f32)
    (q : Fin 2 → Fin 4 → Fin 2 → Fin 8192 → Fin 64 → ℝ) (k : Fin 2 → Fin 4 → Fin 2 → Fin 8448 → Fin 64 → ℝ)
    (v : Fin 2 → Fin 4 → Fin 8448 → Fin 128 → ℝ) (lr : ℝ)
    (hq : ∀ b h i r d, A0 (ix5 b h i r d) = ((q b h i r d : ℝ) : EReal))
    (hk : ∀ b h i r d, A1 (ix5 b h i r d) = ((k b h i r d : ℝ) : EReal))
    (hv : ∀ b h r d, A2 (ix4 b h r d) = ((v b h r d : ℝ) : EReal)) (hl : ∀ y, L y = (lr : EReal))
    (b : Fin 2) (h : Fin 4) (r : Fin 8192) (d : Fin 128) :
    attT (combT (softT (expT (scoreT A0 A1))) L) A2 (ix4 b h r d)
      = ((avg (sr q k b h 0 r) (fun j => v b h j d) - lr * avg (sr q k b h 1 r) (fun j => v b h j d) : ℝ) : EReal) := by
  have hS : ∀ i j, scoreT A0 A1 (ix5 b h i r j) = ((sr q k b h i r j : ℝ) : EReal) := by
    intro i j
    rw [scoreT_apply]
    simp only [hq, hk, eighth, ← EReal.coe_mul, coe_sum]
    rfl
  have hP : ∀ i, ∃ mm : ℝ, ∀ j, softT (expT (scoreT A0 A1)) (ix5 b h i r j)
      = ((Real.exp (sr q k b h i r j - mm) / ∑ j, Real.exp (sr q k b h i r j - mm) : ℝ) : EReal) := by
    intro i
    obtain ⟨mm, hm⟩ := fold_max_real (Finset.univ : Finset (Fin 8448)) (fun j => sr q k b h i r j) ⊥ bot_ne_top ⟨0, Finset.mem_univ _⟩
    have hE : ∀ j, expT (scoreT A0 A1) (ix5 b h i r j) = ((Real.exp (sr q k b h i r j - mm) : ℝ) : EReal) := by
      intro j
      rw [expT_apply, maxT_apply, topT_apply, Cert.KernelIdeal.Hand.ninf]
      simp only [hS]
      rw [hm, max_eq_right bot_le, ← EReal.coe_sub, exp_coe]
    refine ⟨mm, fun j => ?_⟩
    rw [softT_apply, sumT_apply, hE]
    simp only [hE]
    rw [coe_sum, div_coe_coe _ _ (sum_exp_pos _).ne']
  obtain ⟨m0, h0⟩ := hP 0
  obtain ⟨m1, h1⟩ := hP 1
  rw [attT_apply, ← diff_avg (sr q k b h 0 r) (sr q k b h 1 r) (fun j => v b h j d) m0 m1 lr]
  refine Eq.trans (Finset.sum_congr rfl fun j _ => ?_) (coe_sum _ _)
  rw [combT_apply _ _ _ hl, h0, h1, hv, ← EReal.coe_mul, ← EReal.coe_sub, ← EReal.coe_mul]

variable (m : (ℓ : Loc nD τ sig) → Buf (Elt Ideal) ℓ) (c : Dev nD)

/-- The reference's result is these steps in turn. -/
theorem res_eq : res_main_v52 m c = outT (attT (combT (softT (expT (scoreT (m ((c.tc : Thread nD τ).loc main_arg0)) (m ((c.tc : Thread nD τ).loc main_arg1)))))
      (lamT (m ((c.tc : Thread nD τ).loc main_arg3)) (m ((c.tc : Thread nD τ).loc main_arg4)) (m ((c.tc : Thread nD τ).loc main_arg5)) (m ((c.tc : Thread nD τ).loc main_arg6))))
      (m ((c.tc : Thread nD τ).loc main_arg2))) (m ((c.tc : Thread nD τ).loc main_arg7)) := by
  unfold res_main_v52 outT attT combT softT expT scoreT sumT alongT maxT topT lamT
  rfl

/-- The reference's result at an index: `tail` of the difference of the two components' softmax averages. -/
theorem res_val (q : Fin 2 → Fin 4 → Fin 2 → Fin 8192 → Fin 64 → ℝ) (k : Fin 2 → Fin 4 → Fin 2 → Fin 8448 → Fin 64 → ℝ)
    (v : Fin 2 → Fin 4 → Fin 8448 → Fin 128 → ℝ) (lr : ℝ)
    (hq : ∀ b h i r d, (m ((c.tc : Thread nD τ).loc main_arg0) : FVec Ideal S2x4x2x8192x64 .f32) (ix5 b h i r d) = ((q b h i r d : ℝ) : EReal))
    (hk : ∀ b h i r d, (m ((c.tc : Thread nD τ).loc main_arg1) : FVec Ideal S2x4x2x8448x64 .f32) (ix5 b h i r d) = ((k b h i r d : ℝ) : EReal))
    (hv : ∀ b h r d, (m ((c.tc : Thread nD τ).loc main_arg2) : FVec Ideal S2x4x8448x128 .f32) (ix4 b h r d) = ((v b h r d : ℝ) : EReal))
    (hl : lamE (fun x => (m ((c.tc : Thread nD τ).loc main_arg3) : FVec Ideal S1x64 .f32) (ix2 0 x))
      (fun x => (m ((c.tc : Thread nD τ).loc main_arg4) : FVec Ideal S1x64 .f32) (ix2 0 x))
      (fun x => (m ((c.tc : Thread nD τ).loc main_arg5) : FVec Ideal S1x64 .f32) (ix2 0 x))
      (fun x => (m ((c.tc : Thread nD τ).loc main_arg6) : FVec Ideal S1x64 .f32) (ix2 0 x)) = (lr : EReal))
    (b : Fin 2) (r : Fin 8192) (h : Fin 4) (d : Fin 128) :
    (res_main_v52 m c : FVec Ideal S2x8192x512 .bf16) (ix3 b r (⟨h.val * 128 + d.val, by omega⟩ : Fin 512))
      = Cert.KernelIdeal.Hand.tail
        (fun d => ((avg (sr q k b h 0 r) (fun j => v b h j d) - lr * avg (sr q k b h 1 r) (fun j => v b h j d) : ℝ) : EReal))
        (fun d => (m ((c.tc : Thread nD τ).loc main_arg7) : FVec Ideal S1x128 .f32) (ix2 0 d)) d := by
  rw [res_eq]
  refine (outT_apply _ _ b r h d).trans ?_
  congr 1
  funext e
  exact att_val _ _ _ _ q k v lr hq hk hv (fun y => (lamT_apply _ _ _ _ y).trans hl) b h r e

end Cert.ReferenceIdeal.Hand
end
-- ==== Proof.Eq.lean ====
/- The two results are the same array, when the arguments are finite and the same. -/
module

public import proofs.«01_k».proof.Defs
public import proofs.«01_k».proof.Proof.Arr
public import proofs.«01_k».proof.Proof.RefVal

@[expose] public section

set_option maxRecDepth 16384

noncomputable section

/-- The predicate's shape conditions. -/
theorem Cert.Pre_finite.Hand.facts : Cert.Pre_finite.Facts where
  bcast_S_S2x4x2x8192x64 := by decide
  bcast_S_S2x4x2x8448x64 := by decide
  bcast_S_S2x4x8448x128 := by decide
  bcast_S_S1x64 := by decide

namespace Cert.KernelIdeal.Hand

open Cert.KernelIdeal Cert.KernelIdeal.Gen
open Idealize.ShloMosaic Idealize.ShloMosaic.TcCoe Cert.Soft
open scoped BigOperators

/-- The pattern of `+∞` is `+∞`. -/
theorem pinf : Ideal.ofBits .f32 2139095040#32 = ⊤ := by
  simp [Ideal.ofBits, Ideal.ieee]

/-- The constant of the factor is a real. -/
theorem fifth : ∃ r : ℝ, Ideal.ofBits .f32 1045220557#32 = (r : EReal) := by
  refine ⟨(Ideal.ofBits .f32 1045220557#32).toReal, (EReal.coe_toReal ?_ ?_).symm⟩ <;>
  · simp [Ideal.ofBits, Ideal.ieee, -EReal.coe_mul, -EReal.coe_neg]

/-- The base of the exponentials. -/
theorem two : Ideal.ofBits .f32 0x40000000#32 = ((2 : ℝ) : EReal) := by
  simp [Ideal.ofBits, Ideal.ieee, -EReal.coe_mul]
  try norm_num

/-- The scale folded into the queries, a real. -/
theorem scale : Ideal.div (Ideal.ofBits .f32 0x3E000000#32) (Ideal.log (Ideal.ofBits .f32 0x40000000#32)) = (((1 / 8) / Real.log 2 : ℝ) : EReal) := by
  rw [two, log_coe 2 (by norm_num)]
  exact (congrArg (fun x => Ideal.div x _) Cert.ReferenceIdeal.Hand.eighth).trans (div_coe_coe _ _ log_two_ne)

/-- Where the absolute value compares below `+∞`, the entry is a real. -/
theorem real_of_cmp {s : Shape} (a : FVec Ideal s .f32) (hb : Cert.Pre_finite.S_.BroadcastsInDim s ![])
    (h : cmpf .olt (Host.absf a) (broadcastInDim s ![] hb (constant Cert.Pre_finite.S_ .f32 0x7F800000#32)) = fun _ => 1#1) (i : s.Idx) :
    ∃ r : ℝ, a i = (r : EReal) := by
  have h' := congrFun h i
  refine ⟨(a i : EReal).toReal, (real_of_abs_lt ?_).symm⟩
  rw [← pinf]
  by_contra hn
  have e : (cmpf .olt (Host.absf a) (broadcastInDim s ![] hb (constant Cert.Pre_finite.S_ .f32 0x7F800000#32))) i
      = BitVec.ofBool (decide (max (a i : EReal) (-(a i : EReal)) < Ideal.ofBits .f32 2139095040#32)) := rfl
  rw [e, decide_eq_false hn] at h'
  exact absurd h' (by decide)

/-- The reals behind the arguments. -/
theorem reals [Cert.Pre_finite.Facts] (m : (ℓ : Loc nD τ sig) → Buf (Elt Ideal) ℓ) (hp : Cert.Pre_KernelIdeal_finite m) (c : Dev nD) :
    (∀ i, ∃ r : ℝ, aq m c i = (r : EReal)) ∧ (∀ i, ∃ r : ℝ, ak m c i = (r : EReal)) ∧ (∀ i, ∃ r : ℝ, av m c i = (r : EReal))
    ∧ (∀ i, ∃ r : ℝ, a3 m c i = (r : EReal)) ∧ (∀ i, ∃ r : ℝ, a4 m c i = (r : EReal)) ∧ (∀ i, ∃ r : ℝ, a5 m c i = (r : EReal))
    ∧ (∀ i, ∃ r : ℝ, a6 m c i = (r : EReal)) := by
  obtain ⟨h0, h1, h2, h3, h4, h5, h6⟩ := hp c
  exact ⟨real_of_cmp _ _ h0, real_of_cmp _ _ h1, real_of_cmp _ _ h2, real_of_cmp _ _ h3, real_of_cmp _ _ h4, real_of_cmp _ _ h5, real_of_cmp _ _ h6⟩

/-- The factor of real vectors is a real. -/
theorem lam_real (x3 x4 x5 x6 : Fin 64 → EReal) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∃ lr : ℝ, Cert.ReferenceIdeal.Hand.lamE x3 x4 x5 x6 = (lr : EReal) := by
  choose y3 e3 using h3
  choose y4 e4 using h4
  choose y5 e5 using h5
  choose y6 e6 using h6
  obtain ⟨f, hf⟩ := fifth
  refine ⟨Real.exp (∑ i, y3 i * y4 i) - Real.exp (∑ i, y5 i * y6 i) + f, ?_⟩
  unfold Cert.ReferenceIdeal.Hand.lamE
  simp only [e3, e4, e5, e6, ← EReal.coe_mul, coe_sum, exp_coe, hf]
  rw [← EReal.coe_sub, ← EReal.coe_add]

/-- A component's score from the scaled queries. -/
theorem score_eq (q : Fin 2 → Fin 4 → Fin 2 → Fin 8192 → Fin 64 → ℝ) (k : Fin 2 → Fin 4 → Fin 2 → Fin 8448 → Fin 64 → ℝ)
    (b : Fin 2) (h : Fin 4) (i : Fin 2) (r : Fin 8192) (j : Fin 8448) (L : ℝ) :
    ∑ d : Fin 64, q b h i r d * (1 / 8 / L) * k b h i j d = Cert.ReferenceIdeal.Hand.sr q k b h i r j / L := by
  unfold Cert.ReferenceIdeal.Hand.sr
  rw [Finset.sum_mul, Finset.sum_div]
  exact Finset.sum_congr rfl fun d _ => by ring

/-- The kernel's result array is the reference's, when the arguments are finite and the two memories hold the same ones. -/
theorem value_eq [Cert.Pre_finite.Facts] (m : (ℓ : Loc nD τ sig) → Buf (Elt Ideal) ℓ) (hp : Cert.Pre_KernelIdeal_finite m) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = aq m c)
    (h1 : m' ((c.tc : Thread Cert.ReferenceIdeal.nD Cert.ReferenceIdeal.τ).loc Cert.ReferenceIdeal.main_arg1) = ak m c)
    (h2 : m' ((c.tc : Thread Cert.ReferenceIdeal.nD Cert.ReferenceIdeal.τ).loc Cert.ReferenceIdeal.main_arg2) = av m c)
    (h3 : m' ((c.tc : Thread Cert.ReferenceIdeal.nD Cert.ReferenceIdeal.τ).loc Cert.ReferenceIdeal.main_arg3) = a3 m c)
    (h4 : m' ((c.tc : Thread Cert.ReferenceIdeal.nD Cert.ReferenceIdeal.τ).loc Cert.ReferenceIdeal.main_arg4) = a4 m c)
    (h5 : m' ((c.tc : Thread Cert.ReferenceIdeal.nD Cert.ReferenceIdeal.τ).loc Cert.ReferenceIdeal.main_arg5) = a5 m c)
    (h6 : m' ((c.tc : Thread Cert.ReferenceIdeal.nD Cert.ReferenceIdeal.τ).loc Cert.ReferenceIdeal.main_arg6) = a6 m c)
    (h7 : m' ((c.tc : Thread Cert.ReferenceIdeal.nD Cert.ReferenceIdeal.τ).loc Cert.ReferenceIdeal.main_arg7) = ag m c) :
    (dats m 0 c).arrAt 5 (cfgs 0).N = Cert.ReferenceIdeal.Value.res_main_v52 m' c := by
  obtain ⟨rq, rk, rv, r3, r4, r5, r6⟩ := reals m hp c
  choose q' hq' using rq
  choose k' hk' using rk
  choose v' hv' using rv
  obtain ⟨lr, hl⟩ := lam_real (fun x => a3 m c (ix2 0 x)) (fun x => a4 m c (ix2 0 x)) (fun x => a5 m c (ix2 0 x)) (fun x => a6 m c (ix2 0 x))
    (fun x => r3 _) (fun x => r4 _) (fun x => r5 _) (fun x => r6 _)
  let q : Fin 2 → Fin 4 → Fin 2 → Fin 8192 → Fin 64 → ℝ := fun b h i r d => q' (ix5 b h i r d)
  let k : Fin 2 → Fin 4 → Fin 2 → Fin 8448 → Fin 64 → ℝ := fun b h i r d => k' (ix5 b h i r d)
  let v : Fin 2 → Fin 4 → Fin 8448 → Fin 128 → ℝ := fun b h r d => v' (ix4 b h r d)
  have hq : ∀ b h i r d, aq m c (ix5 b h i r d) = ((q b h i r d : ℝ) : EReal) := fun _ _ _ _ _ => hq' _
  have hk : ∀ b h i r d, ak m c (ix5 b h i r d) = ((k b h i r d : ℝ) : EReal) := fun _ _ _ _ _ => hk' _
  have hv : ∀ b h r d, av m c (ix4 b h r d) = ((v b h r d : ℝ) : EReal) := fun _ _ _ _ => hv' _
  clear_value q k v
  refine arr_eq m c (Cert.ReferenceIdeal.Value.res_main_v52 m' c) fun t r d => ?_
  have hR := Cert.ReferenceIdeal.Hand.res_val m' c q k v lr (by rw [h0]; exact hq) (by rw [h1]; exact hk) (by rw [h2]; exact hv)
    (by rw [h3, h4, h5, h6]; exact hl) (tb t) ⟨(ti t).val * 1024 + r.val, by have := (ti t).isLt; omega⟩ (th t) d
  refine Eq.trans ?_ hR.symm
  rw [h7]
  have i0 : ∀ d : Fin 64, (⟨d.val / 64, by omega⟩ : Fin 2) = 0 := fun d => Fin.ext (by show d.val / 64 = 0; omega)
  have i1 : ∀ d : Fin 64, (⟨(64 + d.val) / 64, by omega⟩ : Fin 2) = 1 := fun d => Fin.ext (by show (64 + d.val) / 64 = 1; omega)
  have j0 : ∀ d : Fin 64, (⟨d.val % 64, by omega⟩ : Fin 64) = d := fun d => Fin.ext (by show d.val % 64 = d.val; omega)
  have j1 : ∀ d : Fin 64, (⟨(64 + d.val) % 64, by omega⟩ : Fin 64) = d := fun d => Fin.ext (by show (64 + d.val) % 64 = d.val; omega)
  refine (outB_val (iblk m c 0 t) (X0_1 m c t) (iblk m c 2 t) (iblk m c 3 t) (iblk m c 4 t) lr
    (fun r l => q (tb t) (th t) ⟨l.val / 64, by omega⟩ ⟨(ti t).val * 1024 + r.val, by have := (ti t).isLt; omega⟩ ⟨l.val % 64, by omega⟩ * (1 / 8 / Real.log 2))
    (fun j l => k (tb t) (th t) ⟨l.val / 64, by omega⟩ (sigma j) ⟨l.val % 64, by omega⟩)
    (fun j d => v (tb t) (th t) (sigma j) d) ?_ ?_ ?_ ?_ sigma r
    (Cert.ReferenceIdeal.Hand.sr q k (tb t) (th t) 0 ⟨(ti t).val * 1024 + r.val, by have := (ti t).isLt; omega⟩)
    (Cert.ReferenceIdeal.Hand.sr q k (tb t) (th t) 1 ⟨(ti t).val * 1024 + r.val, by have := (ti t).isLt; omega⟩)
    (fun d j => v (tb t) (th t) j d) ?_ ?_ (fun _ _ => rfl) d).trans ?_
  · exact (blk0 m c t).trans ((lam_val m c).trans hl)
  · intro r l
    refine (blk1 m c t r l).trans ((q_val m c (tb t) (th t) ⟨(ti t).val * 1024 + r.val, by have := (ti t).isLt; omega⟩ l).trans ?_)
    rw [scale, hq, ← EReal.coe_mul]
  · intro j l
    exact (blk2 m c t j l).trans ((k_val m c (tb t) (th t) j l).trans (hk _ _ _ _ _))
  · intro j l
    exact (blk3 m c t j l).trans ((v_val m c (tb t) (th t) j l).trans (hv _ _ _ _))
  · intro j
    simp only [i0, j0]
    exact score_eq q k _ _ 0 _ (sigma j) (Real.log 2)
  · intro j
    simp only [i1, j1]
    exact score_eq q k _ _ 1 _ (sigma j) (Real.log 2)
  · exact congrArg (fun g => tail _ g d) (funext fun d => (blk4 m c t d).trans (g_val m c d))

end Cert.KernelIdeal.Hand
end
-- ==== Proof.InPay.lean ====
/- The second call's body at an index: the normed and modulated rows times the weights, and the rotation of one head. -/
module

public import proofs.«01_k».proof.Proof.Gen.Kernel2Ideal.Skeleton
public import Idealize.ShloMosaic.Lib.Pipeline.ValueKit
public import Idealize.ShloMosaic.Lib.KernelVsHost

@[expose] public section

set_option maxRecDepth 16384

noncomputable section

namespace Cert.InProj

open Idealize.ShloMosaic
open scoped BigOperators

/-- One row normed by its root mean square, scaled by `g` and by one plus `sc`, and shifted by `sh`. -/
def normed (x g sc sh : Fin 1024 → EReal) (k : Fin 1024) : EReal :=
  x k * Ideal.rsqrt (Ideal.div (∑ e, x e * x e) (Ideal.ofBits .f32 0x44800000#32) + Ideal.ofBits .f32 0x358637BD#32) * g k
    * (1 + sc k) + sh k

/-- Where a lane's partner in the rotation lies within its 128 lanes. -/
def partner (l : Fin 128) : Fin 128 := if l.val % 32 < 16 then ⟨(l.val + 16) % 128, Nat.mod_lt _ (by decide)⟩ else ⟨(l.val + 112) % 128, Nat.mod_lt _ (by decide)⟩

end Cert.InProj

namespace Cert.Kernel2Ideal.Hand

open Cert.Kernel2Ideal Cert.Kernel2Ideal.Gen Cert.InProj
open Idealize.ShloMosaic Idealize.ShloMosaic.TcCoe
open scoped BigOperators

/-- The product of a block of rows, normed and modulated, with the weights. -/
def prodT (v5 : FVec Ideal S256x1024 .f32) (v8 v10 v21 : FVec Ideal S1x1024 .f32) (v32 : FVec Ideal S1024x4096 .bf16) : FVec Ideal S256x4096 .f32 :=
  matmul dot_S256x1024_S1024x4096_S256x4096_1_0_0_1_n_n none
    (truncf .bf16 (addf (mulf (mulf (mulf v5 (broadcastTo S256x1024 (rsqrt (addf (divf (shapeCast S256x1 (multiReduction .add [1] S256 (mulf v5 v5) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
      (broadcastTo S256x1024 (shapeCast S1x1024 v21 shapeCasts_S1x1024_S1x1024) broadcasts_S1x1024_S256x1024))
      (broadcastTo S256x1024 (addf (broadcast S1x1024 (Scalar.ofBits .f32 0x3F800000#32)) v10) broadcasts_S1x1024_S256x1024))
      (broadcastTo S256x1024 v8 broadcasts_S1x1024_S256x1024)) bitsLt_bf16_f32)
    (shapeCast S1024x4096 v32 shapeCasts_S1024x4096_S1024x4096) (constant S256x4096 .f32 0x00000000#32)

theorem prodT_apply (v5 : FVec Ideal S256x1024 .f32) (v8 v10 v21 : FVec Ideal S1x1024 .f32) (v32 : FVec Ideal S1024x4096 .bf16) (r : Fin 256) (n : Fin 4096) :
    prodT v5 v8 v10 v21 v32 (ix2 r n) = ∑ k, normed (fun k => v5 (ix2 r k)) (fun k => v21 (ix2 0 k)) (fun k => v10 (ix2 0 k)) (fun k => v8 (ix2 0 k)) k * v32 (ix2 k n) := by
  pointwise [prodT]
  rfl

/-- The body's product at an index, at a block of latents. -/
theorem pay1_lat (i : grid0.Coords) (v1 v3 : FVec Ideal S1x256x1024 .f32) (v8 v10 v21 : FVec Ideal S1x1024 .f32) (v32 : FVec Ideal S1024x4096 .bf16)
    (hi : (i 1).val ≠ 32) (r : Fin 256) (n : Fin 4096) :
    k0_pay1 (F := Ideal) i v1 v3 v8 v10 v21 v32 (ix2 r n)
      = ∑ k, normed (fun k => v3 (ix3 0 r k)) (fun k => v21 (ix2 0 k)) (fun k => v10 (ix2 0 k)) (fun k => v8 (ix2 0 k)) k * v32 (ix2 k n) := by
  have hb : Scalar.cmpi .eq (BitVec.ofNat 32 (i 1).val) 32#32 = 0#1 := by
    have h : ∀ x : Fin 33, x.val ≠ 32 → Scalar.cmpi .eq (BitVec.ofNat 32 x.val) 32#32 = 0#1 := by decide +kernel
    exact h (i 1) hi
  have e : k0_pay1 (F := Ideal) i v1 v3 v8 v10 v21 v32 = prodT (Scalar.select (Scalar.cmpi .eq (BitVec.ofNat 32 (i 1).val) 32#32)
      (shapeCast S256x1024 v1 shapeCasts_S1x256x1024_S256x1024) (shapeCast S256x1024 v3 shapeCasts_S1x256x1024_S256x1024)) v8 v10 v21 v32 := rfl
  rw [e, hb]
  refine (prodT_apply _ _ _ _ _ r n).trans ?_
  have e3 : (fun k => (Scalar.select 0#1 (shapeCast S256x1024 v1 shapeCasts_S1x256x1024_S256x1024) (shapeCast S256x1024 v3 shapeCasts_S1x256x1024_S256x1024) : FVec Ideal S256x1024 .f32) (ix2 r k))
      = fun k => v3 (ix3 0 r k) := by
    funext k
    show shapeCast S256x1024 v3 shapeCasts_S1x256x1024_S256x1024 (ix2 r k) = _
    pointwise
  rw [e3]

/-- The body's product at an index, at the block of context. -/
theorem pay1_ctx (i : grid0.Coords) (v1 v3 : FVec Ideal S1x256x1024 .f32) (v8 v10 v21 : FVec Ideal S1x1024 .f32) (v32 : FVec Ideal S1024x4096 .bf16)
    (hi : (i 1).val = 32) (r : Fin 256) (n : Fin 4096) :
    k0_pay1 (F := Ideal) i v1 v3 v8 v10 v21 v32 (ix2 r n)
      = ∑ k, normed (fun k => v1 (ix3 0 r k)) (fun k => v21 (ix2 0 k)) (fun k => v10 (ix2 0 k)) (fun k => v8 (ix2 0 k)) k * v32 (ix2 k n) := by
  have hb : Scalar.cmpi .eq (BitVec.ofNat 32 (i 1).val) 32#32 = 1#1 := by rw [hi]; rfl
  have e : k0_pay1 (F := Ideal) i v1 v3 v8 v10 v21 v32 = prodT (Scalar.select (Scalar.cmpi .eq (BitVec.ofNat 32 (i 1).val) 32#32)
      (shapeCast S256x1024 v1 shapeCasts_S1x256x1024_S256x1024) (shapeCast S256x1024 v3 shapeCasts_S1x256x1024_S256x1024)) v8 v10 v21 v32 := rfl
  rw [e, hb]
  refine (prodT_apply _ _ _ _ _ r n).trans ?_
  have e3 : (fun k => (Scalar.select 1#1 (shapeCast S256x1024 v1 shapeCasts_S1x256x1024_S256x1024) (shapeCast S256x1024 v3 shapeCasts_S1x256x1024_S256x1024) : FVec Ideal S256x1024 .f32) (ix2 r k))
      = fun k => v1 (ix3 0 r k) := by
    funext k
    show shapeCast S256x1024 v1 shapeCasts_S1x256x1024_S256x1024 (ix2 r k) = _
    pointwise
  rw [e3]

/-- The lanes whose partner lies ahead. -/
def maskT : IVec S256x128 1 := k0_pay2 (iota .tc S256x128 32 [1] iota_S256x128_d1_w32) 32#32 0#1

/-- One head rotated. -/
def ropeT (x c s : FVec Ideal S256x128 .f32) : FVec Ideal S256x128 .f32 :=
  addf (mulf x c) (mulf (select maskT (dynamicRotate 1 112#32 none x rotates_S256x128_d1) (dynamicRotate 1 16#32 none x rotates_S256x128_d1)) s)

theorem maskT_apply (r : Fin 256) (l : Fin 128) : maskT (ix2 r l) = BitVec.ofBool (decide (l.val % 32 < 16)) := by
  have e : ∀ r', maskT (ix2 r l) = maskT (ix2 r' l) := fun r' => rfl
  rw [e 0]
  clear e
  revert l
  decide +kernel

theorem ropeT_apply (x c s : FVec Ideal S256x128 .f32) (r : Fin 256) (l : Fin 128) :
    ropeT x c s (ix2 r l) = x (ix2 r l) * c (ix2 r l) + x (ix2 r (partner l)) * s (ix2 r l) := by
  have e : ropeT x c s (ix2 r l) = x (ix2 r l) * c (ix2 r l)
    + (if maskT (ix2 r l) = 1#1 then dynamicRotate 1 112#32 none x rotates_S256x128_d1 (ix2 r l) else dynamicRotate 1 16#32 none x rotates_S256x128_d1 (ix2 r l)) * s (ix2 r l) := rfl
  rw [e, maskT_apply]
  congr 2
  unfold partner
  by_cases h : l.val % 32 < 16
  · rw [if_pos h, decide_eq_true h, if_pos (by decide)]
    refine Idealize.ShloMosaic.dynamicRotate_apply _ _ _ _ _ _ fun b => ?_
    match b with
    | 0 => rfl
    | 1 => simp
  · rw [if_neg h, decide_eq_false h, if_neg (by decide)]
    refine Idealize.ShloMosaic.dynamicRotate_apply _ _ _ _ _ _ fun b => ?_
    match b with
    | 0 => rfl
    | 1 => simp

/-- The eight rotated heads side by side. -/
def qkT (p : FVec Ideal S256x4096 .f32) (c s : FVec Ideal S256x128 .f32) : FVec Ideal S256x1024 .f32 :=
  k0_pay13 p maskT (k0_pay3 p (iota .tc S256x128 32 [1] iota_S256x128_d1_w32) 32#32 0#1 c s)
    (k0_pay4 p (iota .tc S256x128 32 [1] iota_S256x128_d1_w32) 32#32 0#1 c s) (k0_pay7 maskT (k0_pay5 p) (k0_pay6 p) 16#32 c s)
    (k0_pay8 p maskT c s) (k0_pay9 p maskT c s) (k0_pay11 p maskT) (k0_pay12 p c) s c s c s

theorem qkT_eq (p : FVec Ideal S256x4096 .f32) (c s : FVec Ideal S256x128 .f32) : qkT p c s
    = concatenate S256x1024 1 [⟨S256x128, ropeT (extractStridedSlice S256x128 ![0, 0] p slices_S256x4096_o0_0_S256x128) (shapeCast S256x128 c shapeCasts_S256x128_S256x128) (shapeCast S256x128 s shapeCasts_S256x128_S256x128)⟩,
      ⟨S256x128, ropeT (extractStridedSlice S256x128 ![0, 128] p slices_S256x4096_o0_128_S256x128) (shapeCast S256x128 c shapeCasts_S256x128_S256x128) (shapeCast S256x128 s shapeCasts_S256x128_S256x128)⟩,
      ⟨S256x128, ropeT (extractStridedSlice S256x128 ![0, 256] p slices_S256x4096_o0_256_S256x128) (shapeCast S256x128 c shapeCasts_S256x128_S256x128) (shapeCast S256x128 s shapeCasts_S256x128_S256x128)⟩,
      ⟨S256x128, ropeT (extractStridedSlice S256x128 ![0, 384] p slices_S256x4096_o0_384_S256x128) (shapeCast S256x128 c shapeCasts_S256x128_S256x128) (shapeCast S256x128 s shapeCasts_S256x128_S256x128)⟩,
      ⟨S256x128, ropeT (extractStridedSlice S256x128 ![0, 512] p slices_S256x4096_o0_512_S256x128) (shapeCast S256x128 c shapeCasts_S256x128_S256x128) (shapeCast S256x128 s shapeCasts_S256x128_S256x128)⟩,
      ⟨S256x128, ropeT (extractStridedSlice S256x128 ![0, 640] p slices_S256x4096_o0_640_S256x128) (shapeCast S256x128 c shapeCasts_S256x128_S256x128) (shapeCast S256x128 s shapeCasts_S256x128_S256x128)⟩,
      ⟨S256x128, ropeT (extractStridedSlice S256x128 ![0, 768] p slices_S256x4096_o0_768_S256x128) (shapeCast S256x128 c shapeCasts_S256x128_S256x128) (shapeCast S256x128 s shapeCasts_S256x128_S256x128)⟩,
      ⟨S256x128, ropeT (extractStridedSlice S256x128 ![0, 896] p slices_S256x4096_o0_896_S256x128) (shapeCast S256x128 c shapeCasts_S256x128_S256x128) (shapeCast S256x128 s shapeCasts_S256x128_S256x128)⟩]
      concatenates_S256x128_S256x128_S256x128_S256x128_S256x128_S256x128_S256x128_S256x128_S256x1024_d1 := by
  unfold qkT k0_pay13 k0_pay3 k0_pay4 k0_pay7 k0_pay8 k0_pay9 k0_pay11 k0_pay12 k0_pay5 k0_pay6 k0_pay10 ropeT
  rfl

/-- An entry of a rotated head. -/
def ropeE (p : FVec Ideal S256x4096 .f32) (c s : FVec Ideal S256x128 .f32) (j : Fin 8) (r : Fin 256) (l : Fin 128) : EReal :=
  p (ix2 r ⟨j.val * 128 + l.val, by omega⟩) * c (ix2 r l) + p (ix2 r ⟨j.val * 128 + (partner l).val, by omega⟩) * s (ix2 r l)

theorem qkT_apply (p : FVec Ideal S256x4096 .f32) (c s : FVec Ideal S256x128 .f32) (j : Fin 8) (r : Fin 256) (l : Fin 128) :
    qkT p c s (ix2 r (⟨j.val * 128 + l.val, by omega⟩ : Fin 1024)) = ropeE p c s j r l := by
  rw [qkT_eq]
  fin_cases j
  all_goals
    pointwise
    repeat (first | rw [dif_pos (by omega)] | rw [dif_neg (by omega)])
    refine (congrArg (fun x => ropeT _ _ _ (ix2 r x)) (Fin.ext (by simp; try omega) : _ = l)).trans ?_
    refine (ropeT_apply _ _ _ r l).trans ?_
    unfold ropeE
    pointwise
    try blk_ext

end Cert.Kernel2Ideal.Hand
end
-- ==== Proof.InOut.lean ====
/- What a grid point of the second call writes, at an index of its three blocks. -/
module

public import proofs.«01_k».proof.Proof.InPay
public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Kernel2Ideal.Hand

open Cert.Kernel2Ideal Cert.Kernel2Ideal.Gen Cert.InProj
open Idealize.ShloMosaic Idealize.ShloMosaic.TcCoe
open scoped BigOperators

variable (m : (ℓ : Loc nD τ sig) → Buf (Elt Ideal) ℓ) (c : Dev nD)

/-- The point's product. -/
def pT (t : Fin cfg0.N) : FVec Ideal S256x4096 .f32 :=
  k0_pay1 (grid0.coords t) (iblk m c 1 t) (iblk m c 0 t)
    (View.ld (iblk m c 2 t) (Rect.unit (s := S8x6144) (k0_off1 (grid0.coords t)) S1x1024.size (k0_off1_inb (grid0.coords t))))
    (View.ld (iblk m c 2 t) (Rect.unit (s := S8x6144) (k0_off2 (grid0.coords t)) S1x1024.size (k0_off2_inb (grid0.coords t)))) (iblk m c 3 t) (iblk m c 4 t)

/-- The entry of the block of gates a point writes. -/
theorem out8 (t : Fin cfg0.N) (r : Fin 256) (n : Fin 1024) :
    (outsAt0 m c t).2.1 (ix3 (n0 := 1) (n1 := 256) (n2 := 1024) 0 r n) = pT m c t (ix2 r ⟨1536 + n.val, by omega⟩) := by
  unfold outsAt0
  frame_out
  refine Eq.trans (b := k0_pay28 (F := Ideal) (pT m c t) (ix3 0 r n)) rfl ?_
  pointwise [k0_pay28]

/-- The entry of the block of the recurrence a point writes. -/
theorem out9 (t : Fin cfg0.N) (r : Fin 256) (n : Fin 1536) :
    (outsAt0 m c t).2.2 (ix3 (n0 := 1) (n1 := 256) (n2 := 1536) 0 r n) = pT m c t (ix2 r ⟨2560 + n.val, by omega⟩) := by
  unfold outsAt0
  frame_out
  refine Eq.trans (b := k0_pay29 (F := Ideal) (pT m c t) (ix3 0 r n)) rfl ?_
  pointwise [k0_pay29]

/-- An entry of the block of heads: a rotated head, or a value head as it is. -/
def headE (p : FVec Ideal S256x4096 .f32) (cs sn : FVec Ideal S256x128 .f32) (j : Fin 12) (r : Fin 256) (l : Fin 128) : EReal :=
  if h : j.val < 8 then ropeE p cs sn ⟨j.val, h⟩ r l else p (ix2 r ⟨j.val * 128 + l.val, by omega⟩)

set_option maxHeartbeats 1600000 in
/-- The entry of the block of heads a point writes. -/
theorem out7 (t : Fin cfg0.N) (j : Fin 12) (r : Fin 256) (l : Fin 128) :
    (outsAt0 m c t).1 (ix4 (n0 := 1) (n1 := 12) (n2 := 256) (n3 := 128) 0 j r l) = headE (pT m c t) (iblk m c 5 t) (iblk m c 6 t) j r l := by
  unfold outsAt0
  frame_out
  canon_tiles x h
  all_goals
    idx_vars x
    obtain rfl : x0 = 0 := Subsingleton.elim _ _
    obtain rfl : x1 = 0 := Subsingleton.elim _ _
    obtain rfl : x2 = r := Fin.ext h2.symm
    obtain rfl : x3 = l := Fin.ext h3.symm
  case piece0 =>
    obtain rfl : j = 11 := Fin.ext h1
    refine Eq.trans (b := (k0_pay27 (pT m c t) : FVec Ideal S1x1x256x128 .bf16) (ix4 0 0 x2 x3)) rfl ?_
    unfold headE
    rw [dif_neg (by decide)]
    pointwise [k0_pay27]
    try blk_ext
  case piece1 =>
    obtain rfl : j = 10 := Fin.ext h1
    refine Eq.trans (b := (k0_pay26 (pT m c t) : FVec Ideal S1x1x256x128 .bf16) (ix4 0 0 x2 x3)) rfl ?_
    unfold headE
    rw [dif_neg (by decide)]
    pointwise [k0_pay26]
    try blk_ext
  case piece2 =>
    obtain rfl : j = 9 := Fin.ext h1
    refine Eq.trans (b := (k0_pay25 (pT m c t) : FVec Ideal S1x1x256x128 .bf16) (ix4 0 0 x2 x3)) rfl ?_
    unfold headE
    rw [dif_neg (by decide)]
    pointwise [k0_pay25]
    try blk_ext
  case piece3 =>
    obtain rfl : j = 8 := Fin.ext h1
    refine Eq.trans (b := (k0_pay24 (k0_pay23 (pT m c t)) : FVec Ideal S1x1x256x128 .bf16) (ix4 0 0 x2 x3)) rfl ?_
    unfold headE
    rw [dif_neg (by decide)]
    pointwise [k0_pay24, k0_pay23]
    try blk_ext
  case piece4 =>
    obtain rfl : j = 7 := Fin.ext h1
    refine Eq.trans (b := (shapeCast S1x1x256x128 (truncf .bf16 (extractStridedSlice S256x128 ![0, 896] (qkT (pT m c t) (iblk m c 5 t) (iblk m c 6 t)) slices_S256x1024_o0_896_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece5 =>
    obtain rfl : j = 6 := Fin.ext h1
    refine Eq.trans (b := (shapeCast S1x1x256x128 (truncf .bf16 (extractStridedSlice S256x128 ![0, 768] (qkT (pT m c t) (iblk m c 5 t) (iblk m c 6 t)) slices_S256x1024_o0_768_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece6 =>
    obtain rfl : j = 5 := Fin.ext h1
    refine Eq.trans (b := (shapeCast S1x1x256x128 (truncf .bf16 (extractStridedSlice S256x128 ![0, 640] (qkT (pT m c t) (iblk m c 5 t) (iblk m c 6 t)) slices_S256x1024_o0_640_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece7 =>
    obtain rfl : j = 4 := Fin.ext h1
    refine Eq.trans (b := (shapeCast S1x1x256x128 (truncf .bf16 (extractStridedSlice S256x128 ![0, 512] (qkT (pT m c t) (iblk m c 5 t) (iblk m c 6 t)) slices_S256x1024_o0_512_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece8 =>
    obtain rfl : j = 3 := Fin.ext h1
    refine Eq.trans (b := (shapeCast S1x1x256x128 (truncf .bf16 (extractStridedSlice S256x128 ![0, 384] (qkT (pT m c t) (iblk m c 5 t) (iblk m c 6 t)) slices_S256x1024_o0_384_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece9 =>
    obtain rfl : j = 2 := Fin.ext h1
    refine Eq.trans (b := (shapeCast S1x1x256x128 (truncf .bf16 (extractStridedSlice S256x128 ![0, 256] (qkT (pT m c t) (iblk m c 5 t) (iblk m c 6 t)) slices_S256x1024_o0_256_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece10 =>
    obtain rfl : j = 1 := Fin.ext h1
    refine Eq.trans (b := (shapeCast S1x1x256x128 (truncf .bf16 (extractStridedSlice S256x128 ![0, 128] (qkT (pT m c t) (iblk m c 5 t) (iblk m c 6 t)) slices_S256x1024_o0_128_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext
  case piece11 =>
    obtain rfl : j = 0 := Fin.ext h1
    refine Eq.trans (b := (shapeCast S1x1x256x128 (truncf .bf16 (extractStridedSlice S256x128 ![0, 0] (qkT (pT m c t) (iblk m c 5 t) (iblk m c 6 t)) slices_S256x1024_o0_0_S256x128) bitsLt_bf16_f32) shapeCasts_S256x128_S1x1x256x128 : FVec Ideal S1x1x256x128 .bf16) (ix4 0 0 x2 x3)) rfl ?_
    unfold headE
    rw [dif_pos (by decide)]
    refine Eq.trans ?_ (qkT_apply _ _ _ _ x2 x3)
    pointwise
    try blk_ext

end Cert.Kernel2Ideal.Hand
end
-- ==== Proof.InAngle.lean ====
/- The angles of the rotation, by position and lane. -/
module

public import Idealize.ShloMosaic.Lib.Pipeline.ValueKit

@[expose] public section

noncomputable section

namespace Cert.InProj

open Idealize.ShloMosaic

/-- The frequency of a lane within its quarter. -/
def freqE (e : Fin 16) : EReal :=
  Ideal.div 1 (Ideal.pow (Ideal.ofBits .f32 0x461C4000#32) (Ideal.div (Ideal.ofBits .f32 0x40000000#32 * FloatOps.sitofp (F := Ideal) .f32 (BitVec.ofNat 32 e.val))
    (Ideal.ofBits .f32 0x42000000#32)))

/-- The angle of a position at a lane: its row of the grid in the first half of the lanes, its column in the second, times the frequency. -/
def angE (r : Fin 8192) (d : Fin 64) : EReal :=
  (FloatOps.sitofp (F := Ideal) .f32 (BitVec.ofNat 32 (if d.val < 32 then r.val / 64 else r.val % 64)) : EReal) * freqE ⟨d.val % 16, Nat.mod_lt _ (by decide)⟩

/-- The cosine and the sine there. -/
def cosE (r : Fin 8192) (d : Fin 64) : EReal := Ideal.cos (angE r d)
def sinE (r : Fin 8192) (d : Fin 64) : EReal := Ideal.sin (angE r d)

end Cert.InProj
end
-- ==== Proof.InHost.lean ====
/- What the second call's windows read. -/
module

public import proofs.«01_k».proof.Proof.InPay
public import proofs.«01_k».proof.Proof.InAngle
public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Kernel2Ideal.Hand

open Cert.Kernel2Ideal Cert.Kernel2Ideal.Gen Cert.InProj
open Idealize.ShloMosaic Idealize.ShloMosaic.TcCoe
open scoped BigOperators

variable (m : (ℓ : Loc nD τ sig) → Buf (Elt Ideal) ℓ) (c : Dev nD)

/-- The arguments, as arrays. -/
abbrev ax : Vec Ideal S2x8192x1024 .f32 := m (c, Proc.devRef .tc main_arg0)
abbrev actx : Vec Ideal S2x256x1024 .f32 := m (c, Proc.devRef .tc main_arg1)
abbrev amod : Vec Ideal S8x6144 .f32 := m (c, Proc.devRef .tc main_arg2)
abbrev agm : Vec Ideal S1x1024 .f32 := m (c, Proc.devRef .tc main_arg3)
abbrev aw : Vec Ideal S1x1024x4096 .f32 := m (c, Proc.devRef .tc main_arg4)

/-- The scale of the queries. -/
def scl : EReal := Ideal.ofBits .f32 0x3E38AA3B#32

theorem neg_one : Ideal.ofBits .f32 3212836864#32 = -1 := by
  simp [Ideal.ofBits, Ideal.ieee, -EReal.coe_mul, -EReal.coe_neg]
  try norm_num

theorem pos_one : Ideal.ofBits .f32 1065353216#32 = 1 := by
  simp [Ideal.ofBits, Ideal.ieee, -EReal.coe_mul]
  try norm_num

theorem pos_zero : Ideal.ofBits .f32 0#32 = 0 := by
  simp [Ideal.ofBits, Ideal.ieee, -EReal.coe_mul]

/-- The signs of the rotation. -/
theorem signE (cnd : IVec S64 1) (h : ∀ d : Fin 64, cnd (ix1 d) = BitVec.ofBool (decide (d.val % 32 < 16))) (d : Fin 64) :
    (id (select cnd (broadcastInDim S64 ![] bcast_S_S64 (constant S_ .f32 3212836864#32)) (broadcastInDim S64 ![] bcast_S_S64 (constant S_ .f32 1065353216#32))) : FVec Ideal S64 .f32) (ix1 d)
      = if d.val % 32 < 16 then -1 else 1 := by
  show (if cnd (ix1 d) = 1#1 then Ideal.ofBits .f32 3212836864#32 else Ideal.ofBits .f32 1065353216#32) = _
  rw [h d, neg_one, pos_one]
  by_cases hd : d.val % 32 < 16
  · rw [decide_eq_true hd, if_pos (by decide), if_pos hd]
  · rw [decide_eq_false hd, if_neg (by decide), if_neg hd]

/-- The norm's scale the launch reads. -/
theorem g2_val (k : Fin 1024) : (V m c main_v56 : Vec Ideal S1x1024 .f32) (ix2 0 k) = agm m c (ix2 0 k) := by
  unfold V
  after_reads_at

/-- The weights the launch reads. -/
theorem w2_val (k : Fin 1024) (n : Fin 4096) : (V m c main_v6 : Vec Ideal S1024x4096 .bf16) (ix2 k n)
    = if n.val < 512 then aw m c (ix3 0 k n) * scl else aw m c (ix3 0 k n) := by
  unfold V
  after_reads_at
  by_cases hn : n.val < 512
  · rw [dif_pos hn, if_pos hn]
    after_reads_at
    rfl
  · rw [dif_neg hn, if_neg hn]
    after_reads_at
    try blk_ext

/-- The floor of a quotient and the remainder, as the host's integer operations compute them. -/
def quoB (x y : BitVec 32) : BitVec 32 :=
  Scalar.select (IntOp.andi (IntOp.cmpi .ne (if x = 0 then (0 : BitVec 32) else if x.msb = true then -1 else 1) (if y = 0 then (0 : BitVec 32) else if y.msb = true then -1 else 1))
      (IntOp.cmpi .ne (IntOp.remsi .host x y) 0#32))
    (IntOp.subi (IntOp.divsi .host x y) 1#32) (IntOp.divsi .host x y)

def remB (x y : BitVec 32) : BitVec 32 :=
  Scalar.select (IntOp.andi (IntOp.cmpi .ne (IntOp.cmpi .slt (IntOp.remsi .host x (Scalar.select (IntOp.cmpi .eq y 0#32) 1#32 y)) 0#32)
        (IntOp.cmpi .slt (Scalar.select (IntOp.cmpi .eq y 0#32) 1#32 y) 0#32))
      (IntOp.cmpi .ne (IntOp.remsi .host x (Scalar.select (IntOp.cmpi .eq y 0#32) 1#32 y)) 0#32))
    (IntOp.addi (IntOp.remsi .host x (Scalar.select (IntOp.cmpi .eq y 0#32) 1#32 y)) (Scalar.select (IntOp.cmpi .eq y 0#32) 1#32 y))
    (IntOp.remsi .host x (Scalar.select (IntOp.cmpi .eq y 0#32) 1#32 y))

/-- Of a position by the width of the grid they are its row and its column. -/
theorem quo_rem : ∀ (a : Fin 128) (b : Fin 64), quoB (BitVec.ofNat 32 (a.val * 64 + b.val)) 64#32 = BitVec.ofNat 32 a.val
    ∧ remB (BitVec.ofNat 32 (a.val * 64 + b.val)) 64#32 = BitVec.ofNat 32 b.val := by decide +kernel

theorem quo_val (r : Nat) (h : r < 8192) : quoB (BitVec.ofNat 32 r) 64#32 = BitVec.ofNat 32 (r / 64) := by
  have e : r / 64 * 64 + r % 64 = r := by omega
  have h' := (quo_rem ⟨r / 64, by omega⟩ ⟨r % 64, by omega⟩).1
  rwa [show (⟨r / 64, by omega⟩ : Fin 128).val * 64 + (⟨r % 64, by omega⟩ : Fin 64).val = r from e] at h'

theorem rem_val (r : Nat) (h : r < 8192) : remB (BitVec.ofNat 32 r) 64#32 = BitVec.ofNat 32 (r % 64) := by
  have e : r / 64 * 64 + r % 64 = r := by omega
  have h' := (quo_rem ⟨r / 64, by omega⟩ ⟨r % 64, by omega⟩).2
  rwa [show (⟨r / 64, by omega⟩ : Fin 128).val * 64 + (⟨r % 64, by omega⟩ : Fin 64).val = r from e] at h'

/-- The angle of a lane of the first half and of the second, as the host computes them. -/
theorem ang_row (r : Fin 8192) (d : Fin 64) (h : d.val < 32) (e : Nat) (he : e = d.val % 16) :
    (FloatOps.sitofp (F := Ideal) .f32 (quoB (BitVec.ofNat 32 r.val) 64#32) : EReal)
      * Ideal.div 1 (Ideal.pow (Ideal.ofBits .f32 1176256512#32) (Ideal.div (Ideal.ofBits .f32 1073741824#32 * FloatOps.sitofp (F := Ideal) .f32 (BitVec.ofNat 32 e)) (Ideal.ofBits .f32 1107296256#32)))
      = angE r d := by
  subst he
  rw [quo_val r.val r.isLt]
  unfold angE freqE
  rw [if_pos h]

theorem ang_col (r : Fin 8192) (d : Fin 64) (h : ¬ d.val < 32) (e : Nat) (he : e = d.val % 16) :
    (FloatOps.sitofp (F := Ideal) .f32 (remB (BitVec.ofNat 32 r.val) 64#32) : EReal)
      * Ideal.div 1 (Ideal.pow (Ideal.ofBits .f32 1176256512#32) (Ideal.div (Ideal.ofBits .f32 1073741824#32 * FloatOps.sitofp (F := Ideal) .f32 (BitVec.ofNat 32 e)) (Ideal.ofBits .f32 1107296256#32)))
      = angE r d := by
  subst he
  rw [rem_val r.val r.isLt]
  unfold angE freqE
  rw [if_neg h]

/-- The cosines the launch reads. -/
theorem cos_val (r : Fin 8448) (l : Fin 128) : (V m c main_v48 : Vec Ideal S8448x128 .f32) (ix2 r l)
    = if h : r.val < 8192 then cosE ⟨r.val, h⟩ ⟨l.val % 64, Nat.mod_lt _ (by decide)⟩ else 1 := by
  unfold V
  after_reads_at
  by_cases hr : r.val < 8192
  · rw [dif_pos hr, dif_pos hr]
    after_reads_at
    refine congrArg Ideal.cos ?_
    by_cases h1 : l.val % 64 < 16
    · rw [dif_pos h1]
      after_reads_at
      exact ang_row ⟨r.val, hr⟩ ⟨l.val % 64, Nat.mod_lt _ (by decide)⟩ (by simp; omega) (l.val % 64) (by show l.val % 64 = l.val % 64 % 16; omega)
    by_cases h2 : l.val % 64 < 32
    · rw [dif_neg h1, dif_pos (by omega)]
      after_reads_at
      exact ang_row ⟨r.val, hr⟩ ⟨l.val % 64, Nat.mod_lt _ (by decide)⟩ (by simp; omega) (l.val % 64 - 16) (by show l.val % 64 - 16 = l.val % 64 % 16; omega)
    by_cases h3 : l.val % 64 < 48
    · rw [dif_neg h1, dif_neg (by omega), dif_pos (by omega)]
      after_reads_at
      exact ang_col ⟨r.val, hr⟩ ⟨l.val % 64, Nat.mod_lt _ (by decide)⟩ (by simp; omega) (l.val % 64 - 16 - 16) (by show l.val % 64 - 16 - 16 = l.val % 64 % 16; omega)
    · rw [dif_neg h1, dif_neg (by omega), dif_neg (by omega)]
      after_reads_at
      exact ang_col ⟨r.val, hr⟩ ⟨l.val % 64, Nat.mod_lt _ (by decide)⟩ (by simp; omega) (l.val % 64 - 16 - 16 - 16) (by show l.val % 64 - 16 - 16 - 16 = l.val % 64 % 16; omega)
  · rw [dif_neg hr, dif_neg hr]
    after_reads_at
    try exact pos_one

/-- The signed sines the launch reads. -/
theorem sin_val (r : Fin 8448) (l : Fin 128) : (V m c main_v54 : Vec Ideal S8448x128 .f32) (ix2 r l)
    = (if h : r.val < 8192 then sinE ⟨r.val, h⟩ ⟨l.val % 64, Nat.mod_lt _ (by decide)⟩ else 0)
      * (if l.val % 32 < 16 then -1 else 1) := by
  unfold V
  after_reads_at
  refine congrArg₂ (fun a b : EReal => a * b) ?_ ((signE _ (by decide +kernel) _).trans ?_)
  · by_cases hr : r.val < 8192
    · rw [dif_pos hr, dif_pos hr]
      after_reads_at
      refine congrArg Ideal.sin ?_
      by_cases h1 : l.val % 64 < 16
      · rw [dif_pos h1]
        after_reads_at
        exact ang_row ⟨r.val, hr⟩ ⟨l.val % 64, Nat.mod_lt _ (by decide)⟩ (by simp; omega) (l.val % 64) (by show l.val % 64 = l.val % 64 % 16; omega)
      by_cases h2 : l.val % 64 < 32
      · rw [dif_neg h1, dif_pos (by omega)]
        after_reads_at
        exact ang_row ⟨r.val, hr⟩ ⟨l.val % 64, Nat.mod_lt _ (by decide)⟩ (by simp; omega) (l.val % 64 - 16) (by show l.val % 64 - 16 = l.val % 64 % 16; omega)
      by_cases h3 : l.val % 64 < 48
      · rw [dif_neg h1, dif_neg (by omega), dif_pos (by omega)]
        after_reads_at
        exact ang_col ⟨r.val, hr⟩ ⟨l.val % 64, Nat.mod_lt _ (by decide)⟩ (by simp; omega) (l.val % 64 - 16 - 16) (by show l.val % 64 - 16 - 16 = l.val % 64 % 16; omega)
      · rw [dif_neg h1, dif_neg (by omega), dif_neg (by omega)]
        after_reads_at
        exact ang_col ⟨r.val, hr⟩ ⟨l.val % 64, Nat.mod_lt _ (by decide)⟩ (by simp; omega) (l.val % 64 - 16 - 16 - 16) (by show l.val % 64 - 16 - 16 - 16 = l.val % 64 % 16; omega)
    · rw [dif_neg hr, dif_neg hr]
      after_reads_at
      try exact pos_zero
  · have : l.val % 64 % 32 = l.val % 32 := by omega
    simp only [this]

end Cert.Kernel2Ideal.Hand
end
-- ==== Proof.InSpec.lean ====
/- The second call's results as functions of its arguments, and the scale of the queries brought out of the sums. -/
module

public import proofs.«01_k».proof.Proof.InPay

@[expose] public section

noncomputable section

namespace Cert.InProj

open Idealize.ShloMosaic
open scoped BigOperators

/-- The row of the modulation table a row of tokens uses: its batch's, or the third for the context. -/
def modRow (b : Fin 2) (r : Fin 8448) : Fin 8 := if r.val < 8192 then ⟨b.val, by omega⟩ else 2

/-- A row of tokens: the latents first, then the context. -/
def tokens (x : Fin 2 → Fin 8192 → Fin 1024 → EReal) (ct : Fin 2 → Fin 256 → Fin 1024 → EReal) (b : Fin 2) (r : Fin 8448) : Fin 1024 → EReal :=
  if h : r.val < 8192 then x b ⟨r.val, h⟩ else ct b ⟨r.val - 8192, by omega⟩

/-- The product at an entry: the row normed and modulated, times a column of the weights. -/
def projE (x : Fin 2 → Fin 8192 → Fin 1024 → EReal) (ct : Fin 2 → Fin 256 → Fin 1024 → EReal) (md : Fin 8 → Fin 6144 → EReal)
    (g : Fin 1024 → EReal) (w : Fin 1024 → Fin 4096 → EReal) (b : Fin 2) (r : Fin 8448) (n : Fin 4096) : EReal :=
  ∑ k, normed (tokens x ct b r) g (fun k => md (modRow b r) ⟨1024 + k.val, by omega⟩) (fun k => md (modRow b r) ⟨k.val, by omega⟩) k * w k n

/-- The sign of a lane's partner in the rotation. -/
def sgn (l : Fin 128) : EReal := if l.val % 32 < 16 then -1 else 1

/-- A lane within its half. -/
def half (l : Fin 128) : Fin 64 := ⟨l.val % 64, Nat.mod_lt _ (by decide)⟩

/-- A rotated entry of a head of the product: the latents turned by their position, the context as it is. -/
def turn (p : Fin 2 → Fin 8448 → Fin 4096 → EReal) (cs sn : Fin 8192 → Fin 64 → EReal) (b : Fin 2) (j : Fin 8) (r : Fin 8448) (l : Fin 128) : EReal :=
  if h : r.val < 8192 then p b r ⟨j.val * 128 + l.val, by omega⟩ * cs ⟨r.val, h⟩ (half l)
    + p b r ⟨j.val * 128 + (partner l).val, by omega⟩ * (sn ⟨r.val, h⟩ (half l) * sgn l)
  else p b r ⟨j.val * 128 + l.val, by omega⟩

/-- The heads: four of queries, scaled, four of keys, four of values. -/
def heads (s : EReal) (p : Fin 2 → Fin 8448 → Fin 4096 → EReal) (cs sn : Fin 8192 → Fin 64 → EReal) (b : Fin 2) (j : Fin 12) (r : Fin 8448) (l : Fin 128) : EReal :=
  if h : j.val < 8 then (if j.val < 4 then turn p cs sn b ⟨j.val, h⟩ r l * s else turn p cs sn b ⟨j.val, h⟩ r l)
  else p b r ⟨j.val * 128 + l.val, by omega⟩

/-- A finite nonnegative factor comes out of a sum. -/
theorem sum_scale {ι : Type} [Fintype ι] (f : ι → EReal) (s : EReal) (h0 : 0 ≤ s) (ht : s ≠ ⊤) : ∑ k, f k * s = (∑ k, f k) * s := by
  classical
  induction (Finset.univ : Finset ι) using Finset.induction_on with
  | empty => simp
  | insert a t ha ih => rw [Finset.sum_insert ha, Finset.sum_insert ha, ih, EReal.right_distrib_of_nonneg_of_ne_top h0 ht]

/-- The product with the queries' columns scaled is the product, scaled there. -/
theorem proj_scale (x : Fin 2 → Fin 8192 → Fin 1024 → EReal) (ct : Fin 2 → Fin 256 → Fin 1024 → EReal) (md : Fin 8 → Fin 6144 → EReal)
    (g : Fin 1024 → EReal) (w : Fin 1024 → Fin 4096 → EReal) (s : EReal) (h0 : 0 ≤ s) (ht : s ≠ ⊤) (b : Fin 2) (r : Fin 8448) (n : Fin 4096) :
    projE x ct md g (fun k n => if n.val < 512 then w k n * s else w k n) b r n
      = if n.val < 512 then projE x ct md g w b r n * s else projE x ct md g w b r n := by
  unfold projE
  by_cases hn : n.val < 512
  · simp only [if_pos hn, ← mul_assoc]
    exact sum_scale _ s h0 ht
  · simp only [if_neg hn]

/-- The heads of the product with the queries' columns scaled: the unscaled product's, the queries scaled after they are turned. -/
theorem heads_scale (p : Fin 2 → Fin 8448 → Fin 4096 → EReal) (cs sn : Fin 8192 → Fin 64 → EReal) (s : EReal) (h0 : 0 ≤ s) (ht : s ≠ ⊤)
    (b : Fin 2) (j : Fin 12) (r : Fin 8448) (l : Fin 128) :
    (if h : j.val < 8 then turn (fun b r n => if n.val < 512 then p b r n * s else p b r n) cs sn b ⟨j.val, h⟩ r l
      else (if j.val * 128 + l.val < 512 then p b r ⟨j.val * 128 + l.val, by omega⟩ * s else p b r ⟨j.val * 128 + l.val, by omega⟩))
      = heads s p cs sn b j r l := by
  unfold heads
  by_cases h8 : j.val < 8
  · rw [dif_pos h8, dif_pos h8]
    by_cases h4 : j.val < 4
    · rw [if_pos h4]
      unfold turn
      have e1 : j.val * 128 + l.val < 512 := by omega
      have e2 : j.val * 128 + (partner l).val < 512 := by omega
      by_cases hr : r.val < 8192
      · simp only [dif_pos hr, if_pos e1, if_pos e2]
        rw [EReal.right_distrib_of_nonneg_of_ne_top h0 ht]
        simp only [mul_comm, mul_left_comm]
      · simp only [dif_neg hr, if_pos e1]
    · rw [if_neg h4]
      unfold turn
      have e1 : ¬ j.val * 128 + l.val < 512 := by omega
      have e2 : ¬ j.val * 128 + (partner l).val < 512 := by omega
      simp only [if_neg e1, if_neg e2]
  · rw [dif_neg h8, dif_neg h8, if_neg (by omega)]

end Cert.InProj
end
-- ==== Proof.InArr.lean ====
/- The second call's three result arrays, entry by entry. -/
module

public import proofs.«01_k».proof.Proof.InOut
public import proofs.«01_k».proof.Proof.InHost
public import proofs.«01_k».proof.Proof.InSpec

@[expose] public section

set_option maxRecDepth 16384

noncomputable section

namespace Cert.Kernel2Ideal.Hand

open Cert.Kernel2Ideal Cert.Kernel2Ideal.Gen Cert.InProj
open Idealize.ShloMosaic Idealize.ShloMosaic.TcCoe
open scoped BigOperators

variable (m : (ℓ : Loc nD τ sig) → Buf (Elt Ideal) ℓ) (c : Dev nD)

/-- The windows' block indices at every point. -/
theorem idx : ∀ t : Fin cfg0.N, win0_0.index t = ![t.val / 33, min (t.val % 33) 31, 0] ∧ win0_1.index t = ![t.val / 33, 0, 0]
    ∧ win0_2.index t = ![0, 0] ∧ win0_3.index t = ![0, 0] ∧ win0_4.index t = ![0, 0]
    ∧ win0_5.index t = ![t.val % 33, 0] ∧ win0_6.index t = ![t.val % 33, 0]
    ∧ win0_7.index t = ![t.val / 33, 0, t.val % 33, 0] ∧ win0_8.index t = ![t.val / 33, t.val % 33, 0] ∧ win0_9.index t = ![t.val / 33, t.val % 33, 0] :=
  (by decide +kernel : ∀ t : Fin grid0.N, _)

/-- The block of rows a point works on, and the row of the modulation table it reads. -/
theorem coord : ∀ t : Fin cfg0.N, (grid0.coords t 1).val = t.val % 33
    ∧ k0_off1 (grid0.coords t) = ![if t.val % 33 < 32 then t.val / 33 else 2, 0]
    ∧ k0_off2 (grid0.coords t) = ![if t.val % 33 < 32 then t.val / 33 else 2, 1024] :=
  (by decide +kernel : ∀ t : Fin grid0.N, _)

/-- A point's batch and block of rows. -/
def tb (t : Fin cfg0.N) : Fin 2 := ⟨t.val / 33, by have h : t.val < 66 := t.isLt; omega⟩
def ti (t : Fin cfg0.N) : Fin 33 := ⟨t.val % 33, by omega⟩

/-- A point's row of the array. -/
def tr (t : Fin cfg0.N) (r : Fin 256) : Fin 8448 := ⟨(ti t).val * 256 + r.val, by have := (ti t).isLt; omega⟩

theorem blk0 (t : Fin cfg0.N) (h : t.val % 33 < 32) (r : Fin 256) (k : Fin 1024) : iblk m c 0 t (ix3 (n0 := 1) (n1 := 256) (n2 := 1024) 0 r k)
    = V m c main_arg0 (ix3 (n0 := 2) (n1 := 8192) (n2 := 1024) (tb t) ⟨(tr t r).val, by simp [tr, ti]; omega⟩ k) := by
  blk_ext [iblk, idx t, tb, ti, tr]

theorem blk1 (t : Fin cfg0.N) (r : Fin 256) (k : Fin 1024) : iblk m c 1 t (ix3 (n0 := 1) (n1 := 256) (n2 := 1024) 0 r k)
    = V m c main_arg1 (ix3 (n0 := 2) (n1 := 256) (n2 := 1024) (tb t) r k) := by
  blk_ext [iblk, idx t, tb]

theorem blk2 (t : Fin cfg0.N) (r : Fin 8) (k : Fin 6144) : iblk m c 2 t (ix2 (n0 := 8) (n1 := 6144) r k) = V m c main_arg2 (ix2 (n0 := 8) (n1 := 6144) r k) := by
  blk_ext [iblk, idx t]

theorem blk3 (t : Fin cfg0.N) (k : Fin 1024) : iblk m c 3 t (ix2 (n0 := 1) (n1 := 1024) 0 k) = V m c main_v56 (ix2 (n0 := 1) (n1 := 1024) 0 k) := by
  blk_ext [iblk, idx t]

theorem blk4 (t : Fin cfg0.N) (k : Fin 1024) (n : Fin 4096) : iblk m c 4 t (ix2 (n0 := 1024) (n1 := 4096) k n) = V m c main_v6 (ix2 (n0 := 1024) (n1 := 4096) k n) := by
  blk_ext [iblk, idx t]

theorem blk5 (t : Fin cfg0.N) (r : Fin 256) (l : Fin 128) : iblk m c 5 t (ix2 (n0 := 256) (n1 := 128) r l) = V m c main_v48 (ix2 (n0 := 8448) (n1 := 128) (tr t r) l) := by
  blk_ext [iblk, idx t, tr, ti]

theorem blk6 (t : Fin cfg0.N) (r : Fin 256) (l : Fin 128) : iblk m c 6 t (ix2 (n0 := 256) (n1 := 128) r l) = V m c main_v54 (ix2 (n0 := 8448) (n1 := 128) (tr t r) l) := by
  blk_ext [iblk, idx t, tr, ti]

/-- A row of 1024 entries read out of the modulation table. -/
theorem ld_row (X : Vec Ideal S8x6144 .f32) (o : Fin 2 → Nat) (h : ∀ a, o a + S1x1024.size a ≤ S8x6144.size a) (a : Fin 8) (b : Nat) (hb : b + 1024 ≤ 6144)
    (ho : o = ![a.val, b]) (k : Fin 1024) :
    View.ld X (Rect.unit (s := S8x6144) o S1x1024.size h) (ix2 (n0 := 1) (n1 := 1024) 0 k) = X (ix2 (n0 := 8) (n1 := 6144) a ⟨b + k.val, by omega⟩) := by
  subst ho
  refine congrArg X (funext fun x => Fin.ext ?_)
  match x with
  | 0 => simp [Rect.unit]
  | 1 => simp [Rect.unit]

theorem row_eq (t : Fin cfg0.N) (r : Fin 256) : (modRow (tb t) (tr t r)).val = if t.val % 33 < 32 then t.val / 33 else 2 := by
  unfold modRow
  by_cases h : t.val % 33 < 32
  · rw [if_pos (by simp [tr, ti]; omega), if_pos h]; rfl
  · rw [if_neg (by simp [tr, ti]; omega), if_neg h]; rfl

/-- The shift and the scale a point reads. -/
theorem ld1 (t : Fin cfg0.N) (r : Fin 256) (k : Fin 1024) :
    View.ld (iblk m c 2 t) (Rect.unit (s := S8x6144) (k0_off1 (grid0.coords t)) S1x1024.size (k0_off1_inb (grid0.coords t))) (ix2 (n0 := 1) (n1 := 1024) 0 k)
      = V m c main_arg2 (ix2 (n0 := 8) (n1 := 6144) (modRow (tb t) (tr t r)) ⟨k.val, by omega⟩) := by
  refine (ld_row (iblk m c 2 t) _ _ (modRow (tb t) (tr t r)) 0 (by omega) (by rw [row_eq]; exact (coord t).2.1) k).trans ?_
  refine (blk2 m c t _ _).trans ?_
  simp only [Nat.zero_add]

theorem ld2 (t : Fin cfg0.N) (r : Fin 256) (k : Fin 1024) :
    View.ld (iblk m c 2 t) (Rect.unit (s := S8x6144) (k0_off2 (grid0.coords t)) S1x1024.size (k0_off2_inb (grid0.coords t))) (ix2 (n0 := 1) (n1 := 1024) 0 k)
      = V m c main_arg2 (ix2 (n0 := 8) (n1 := 6144) (modRow (tb t) (tr t r)) ⟨1024 + k.val, by omega⟩) :=
  (ld_row (iblk m c 2 t) _ _ (modRow (tb t) (tr t r)) 1024 (by omega) (by rw [row_eq]; exact (coord t).2.2) k).trans (blk2 m c t _ _)

/-- The arrays of heads, of gates and of the recurrence are `G` when every point's blocks are `G`'s there. -/
theorem arr7 (G : S2x12x8448x128.Idx → EReal)
    (hG : ∀ (t : Fin cfg0.N) (j : Fin 12) (r : Fin 256) (l : Fin 128), (outsAt0 m c t).1 (ix4 (n0 := 1) (n1 := 12) (n2 := 256) (n3 := 128) 0 j r l)
      = G (ix4 (n0 := 2) (n1 := 12) (n2 := 8448) (n3 := 128) (tb t) j (tr t r) l)) :
    (dats m 0 c).arrAt 7 cfg0.N = G := by
  refine (dats m 0 c).arrAt_eq_of_covers 7 _ (by decide +kernel) fun t hf y => ?_
  blk_simp
  rw [after0_7]
  idx_vars y
  obtain rfl : y0 = 0 := Subsingleton.elim _ _
  refine (hG t y1 y2 y3).trans ?_
  blk_ext [idx t, tb, tr, ti]

theorem arr8 (G : S2x8448x1024.Idx → EReal)
    (hG : ∀ (t : Fin cfg0.N) (r : Fin 256) (n : Fin 1024), (outsAt0 m c t).2.1 (ix3 (n0 := 1) (n1 := 256) (n2 := 1024) 0 r n)
      = G (ix3 (n0 := 2) (n1 := 8448) (n2 := 1024) (tb t) (tr t r) n)) :
    (dats m 0 c).arrAt 8 cfg0.N = G := by
  refine (dats m 0 c).arrAt_eq_of_covers 8 _ (by decide +kernel) fun t hf y => ?_
  blk_simp
  rw [after0_8]
  idx_vars y
  obtain rfl : y0 = 0 := Subsingleton.elim _ _
  refine (hG t y1 y2).trans ?_
  blk_ext [idx t, tb, tr, ti]

theorem arr9 (G : S2x8448x1536.Idx → EReal)
    (hG : ∀ (t : Fin cfg0.N) (r : Fin 256) (n : Fin 1536), (outsAt0 m c t).2.2 (ix3 (n0 := 1) (n1 := 256) (n2 := 1536) 0 r n)
      = G (ix3 (n0 := 2) (n1 := 8448) (n2 := 1536) (tb t) (tr t r) n)) :
    (dats m 0 c).arrAt 9 cfg0.N = G := by
  refine (dats m 0 c).arrAt_eq_of_covers 9 _ (by decide +kernel) fun t hf y => ?_
  blk_simp
  rw [after0_9]
  idx_vars y
  obtain rfl : y0 = 0 := Subsingleton.elim _ _
  refine (hG t y1 y2).trans ?_
  blk_ext [idx t, tb, tr, ti]

end Cert.Kernel2Ideal.Hand
end
-- ==== Proof.InKer.lean ====
/- The second kernel's result arrays are the call's results of its arguments. -/
module

public import proofs.«01_k».proof.Proof.InArr

@[expose] public section

set_option maxRecDepth 16384

noncomputable section

namespace Cert.Kernel2Ideal.Hand

open Cert.Kernel2Ideal Cert.Kernel2Ideal.Gen Cert.InProj
open Idealize.ShloMosaic Idealize.ShloMosaic.TcCoe
open scoped BigOperators

variable (m : (ℓ : Loc nD τ sig) → Buf (Elt Ideal) ℓ) (c : Dev nD)

theorem scl_nonneg : 0 ≤ scl := by
  unfold scl
  simp [Ideal.ofBits, Ideal.ieee, -EReal.coe_mul]
  try norm_num

theorem scl_ne_top : scl ≠ ⊤ := by
  unfold scl
  simp [Ideal.ofBits, Ideal.ieee, -EReal.coe_mul]

theorem V0 : (V m c main_arg0 : Vec Ideal S2x8192x1024 .f32) = ax m c := by
  unfold V
  after_reads_at
theorem V1 : (V m c main_arg1 : Vec Ideal S2x256x1024 .f32) = actx m c := by
  unfold V
  after_reads_at
theorem V2 : (V m c main_arg2 : Vec Ideal S8x6144 .f32) = amod m c := by
  unfold V
  after_reads_at

/-- The product of the arguments. -/
def P (b : Fin 2) (r : Fin 8448) (n : Fin 4096) : EReal :=
  projE (fun b r k => ax m c (ix3 b r k)) (fun b r k => actx m c (ix3 b r k)) (fun a k => amod m c (ix2 a k)) (fun k => agm m c (ix2 0 k))
    (fun k n => aw m c (ix3 0 k n)) b r n

/-- The product with the queries' columns scaled. -/
def Q (b : Fin 2) (r : Fin 8448) (n : Fin 4096) : EReal := if n.val < 512 then P m c b r n * scl else P m c b r n

/-- A point's product is the array's at its rows. -/
theorem pT_val (t : Fin cfg0.N) (r : Fin 256) (n : Fin 4096) : pT m c t (ix2 r n) = Q m c (tb t) (tr t r) n := by
  refine Eq.trans ?_ (proj_scale _ _ _ _ _ scl scl_nonneg scl_ne_top (tb t) (tr t r) n)
  unfold pT projE
  have eg : (fun k => (iblk m c 3 t : Vec Ideal S1x1024 .f32) (ix2 0 k)) = fun k => agm m c (ix2 0 k) :=
    funext fun k => (blk3 m c t k).trans (g2_val m c k)
  have es : (fun k => (View.ld (iblk m c 2 t) (Rect.unit (s := S8x6144) (k0_off2 (grid0.coords t)) S1x1024.size (k0_off2_inb (grid0.coords t))) : Vec Ideal S1x1024 .f32) (ix2 0 k))
      = fun k => amod m c (ix2 (modRow (tb t) (tr t r)) ⟨1024 + k.val, by omega⟩) :=
    funext fun k => (ld2 m c t r k).trans (congrFun (V2 m c) _)
  have eh : (fun k => (View.ld (iblk m c 2 t) (Rect.unit (s := S8x6144) (k0_off1 (grid0.coords t)) S1x1024.size (k0_off1_inb (grid0.coords t))) : Vec Ideal S1x1024 .f32) (ix2 0 k))
      = fun k => amod m c (ix2 (modRow (tb t) (tr t r)) ⟨k.val, by omega⟩) :=
    funext fun k => (ld1 m c t r k).trans (congrFun (V2 m c) _)
  have ew : ∀ k, (iblk m c 4 t : Vec Ideal S1024x4096 .bf16) (ix2 k n) = if n.val < 512 then aw m c (ix3 0 k n) * scl else aw m c (ix3 0 k n) :=
    fun k => (blk4 m c t k n).trans (w2_val m c k n)
  by_cases h : t.val % 33 < 32
  · have ex : (fun k => (iblk m c 0 t : Vec Ideal S1x256x1024 .f32) (ix3 0 r k))
        = tokens (fun b r k => ax m c (ix3 b r k)) (fun b r k => actx m c (ix3 b r k)) (tb t) (tr t r) := by
      unfold tokens
      rw [dif_pos (by simp [tr, ti]; omega)]
      exact funext fun k => (blk0 m c t h r k).trans (congrFun (V0 m c) _)
    refine (pay1_lat _ _ _ _ _ _ _ (by rw [(coord t).1]; omega) r n).trans (Finset.sum_congr rfl fun k _ => ?_)
    rw [eg, es, eh, ew, ex]
  · have ex : (fun k => (iblk m c 1 t : Vec Ideal S1x256x1024 .f32) (ix3 0 r k))
        = tokens (fun b r k => ax m c (ix3 b r k)) (fun b r k => actx m c (ix3 b r k)) (tb t) (tr t r) := by
      unfold tokens
      rw [dif_neg (by simp [tr, ti]; omega)]
      refine funext fun k => ((blk1 m c t r k).trans (congrFun (V1 m c) _)).trans ?_
      refine congrArg (fun x => actx m c (ix3 (tb t) x k)) (Fin.ext ?_)
      simp [tr, ti]
      omega
    refine (pay1_ctx _ _ _ _ _ _ _ (by rw [(coord t).1]; omega) r n).trans (Finset.sum_congr rfl fun k _ => ?_)
    rw [eg, es, eh, ew, ex]

/-- The heads of the arguments. -/
def H (b : Fin 2) (j : Fin 12) (r : Fin 8448) (l : Fin 128) : EReal :=
  heads scl (P m c) cosE sinE b j r l

/-- A point's heads are the array's at its rows. -/
theorem head_val (t : Fin cfg0.N) (j : Fin 12) (r : Fin 256) (l : Fin 128) :
    headE (pT m c t) (iblk m c 5 t) (iblk m c 6 t) j r l = H m c (tb t) j (tr t r) l := by
  refine Eq.trans ?_ (heads_scale (P m c) _ _ scl scl_nonneg scl_ne_top (tb t) j (tr t r) l)
  unfold headE
  by_cases h8 : j.val < 8
  · rw [dif_pos h8, dif_pos h8]
    unfold ropeE turn
    have ec := (blk5 m c t r l).trans (cos_val m c (tr t r) l)
    have es := (blk6 m c t r l).trans (sin_val m c (tr t r) l)
    by_cases hr : (tr t r).val < 8192
    · rw [dif_pos hr] at ec es
      rw [dif_pos hr]
      rw [pT_val, pT_val]
      exact congrArg₂ (fun a b : EReal => _ * a + _ * b) ec es
    · rw [dif_neg hr] at ec es
      rw [dif_neg hr]
      rw [pT_val, pT_val]
      refine (congrArg₂ (fun a b : EReal => _ * a + _ * b) ec es).trans ?_
      rw [zero_mul, mul_zero, add_zero, mul_one]
      rfl
  · rw [dif_neg h8, dif_neg h8]
    exact pT_val m c t r _

/-- The kernel's three result arrays. -/
theorem res7 : (dats m 0 c).arrAt 7 cfg0.N = fun i : S2x12x8448x128.Idx => H m c (i 0) (i 1) (i 2) (i 3) :=
  arr7 m c _ fun t j r l => (out7 m c t j r l).trans (head_val m c t j r l)

theorem res8 : (dats m 0 c).arrAt 8 cfg0.N = fun i : S2x8448x1024.Idx => P m c (i 0) (i 1) ⟨1536 + (i 2).val, by have : (i 2).val < 1024 := (i 2).isLt; omega⟩ :=
  arr8 m c _ fun t r n => ((out8 m c t r n).trans (pT_val m c t r _)).trans (if_neg (by simp; try omega))

theorem res9 : (dats m 0 c).arrAt 9 cfg0.N = fun i : S2x8448x1536.Idx => P m c (i 0) (i 1) ⟨2560 + (i 2).val, by have : (i 2).val < 1536 := (i 2).isLt; omega⟩ :=
  arr9 m c _ fun t r n => ((out9 m c t r n).trans (pT_val m c t r _)).trans (if_neg (by simp; try omega))

end Cert.Kernel2Ideal.Hand
end
-- ==== Proof.InRef.lean ====
/- The second reference's results at an index. -/
module

public import proofs.«01_k».proof.Proof.Gen.Reference2Ideal.Run
public import proofs.«01_k».proof.Proof.InSpec
public import proofs.«01_k».proof.Proof.InAngle
public import Idealize.ShloMosaic.Lib.Pipeline.ValueKit
public import Idealize.ShloMosaic.Lib.StableHlo.ReadAt

@[expose] public section

set_option maxRecDepth 16384

noncomputable section

namespace Cert.Reference2Ideal.Hand

open Cert.Reference2Ideal Cert.Reference2Ideal.Gen Cert.Reference2Ideal.Value Cert.InProj
open Idealize.ShloMosaic Idealize.ShloMosaic.TcCoe
open scoped BigOperators

/-- The latents' product. -/
def latT (A0 : FVec Ideal S2x8192x1024 .f32) (A2 : FVec Ideal S8x6144 .f32) (A3 : FVec Ideal S1x1024 .f32) (A4 : FVec Ideal S1x1024x4096 .f32) : FVec Ideal S2x8192x4096 .f32 :=
  Host.dotGeneral dot_S2x8192x1024_S1024x4096_S2x8192x4096_2_0_01_1_n_n none (addf (mulf (mulf (mulf A0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf A0 A0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ A3 shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 0] (extractStridedSlice S8x1024 ![0, 1024] A2 slices_S8x6144_S8x1024_0_1024) slices_S8x1024_S2x1024_0_0))))) (broadcastInDim S2x8192x1024 ![0, 1, 2] bcast_S2x1x1024_S2x8192x1024_0_1_2 (broadcastInDim S2x1x1024 ![0, 2] bcast_S2x1024_S2x1x1024_0_2 (extractStridedSlice S2x1024 ![0, 0] (extractStridedSlice S8x1024 ![0, 0] A2 slices_S8x6144_S8x1024_0_0) slices_S8x1024_S2x1024_0_0)))) (shapeCast _ A4 shapeCasts_S1x1024x4096_S1024x4096)

/-- The context's product. -/
def ctxT (A1 : FVec Ideal S2x256x1024 .f32) (A2 : FVec Ideal S8x6144 .f32) (A3 : FVec Ideal S1x1024 .f32) (A4 : FVec Ideal S1x1024x4096 .f32) : FVec Ideal S2x256x4096 .f32 :=
  Host.dotGeneral dot_S2x256x1024_S1024x4096_S2x256x4096_2_0_01_1_n_n none (addf (mulf (mulf (mulf A1 (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf A1 A1) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ A3 shapeCasts_S1x1024_S1024)))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (shapeCast _ (extractStridedSlice S1x1024 ![2, 0] (extractStridedSlice S8x1024 ![0, 1024] A2 slices_S8x6144_S8x1024_0_1024) slices_S8x1024_S1x1024_2_0) shapeCasts_S1x1024_S1024))))) (broadcastInDim S2x256x1024 ![0, 1, 2] bcast_S1x1x1024_S2x256x1024_0_1_2 (broadcastInDim S1x1x1024 ![2] bcast_S1024_S1x1x1024_2 (shapeCast _ (extractStridedSlice S1x1024 ![2, 0] (extractStridedSlice S8x1024 ![0, 0] A2 slices_S8x6144_S8x1024_0_0) slices_S8x1024_S1x1024_2_0) shapeCasts_S1x1024_S1024)))) (shapeCast _ A4 shapeCasts_S1x1024x4096_S1024x4096)

/-- Columns of the latents split into heads, components and lanes. -/
def splitT (X : FVec Ideal S2x8192x512 .f32) : FVec Ideal S2x4x2x8192x64 .f32 :=
  transpose S2x4x2x8192x64 [0, 2, 3, 1, 4] (shapeCast _ X shapeCasts_S2x8192x512_S2x8192x4x2x64) transposes_S2x8192x4x2x64_S2x4x2x8192x64_0_2_3_1_4

/-- The quarters of the lanes exchanged in pairs, with a sign. -/
def rotT (Y : FVec Ideal S2x4x2x8192x64 .f32) : FVec Ideal S2x4x2x8192x64 .f32 :=
  concatenate S2x4x2x8192x64 4 [⟨S2x4x2x8192x16, (Host.negf (extractStridedSlice S2x4x2x8192x16 ![0, 0, 0, 0, 16] Y slices_S2x4x2x8192x64_S2x4x2x8192x16_0_0_0_0_16))⟩,
    ⟨S2x4x2x8192x16, (extractStridedSlice S2x4x2x8192x16 ![0, 0, 0, 0, 0] Y slices_S2x4x2x8192x64_S2x4x2x8192x16_0_0_0_0_0)⟩,
    ⟨S2x4x2x8192x16, (Host.negf (extractStridedSlice S2x4x2x8192x16 ![0, 0, 0, 0, 48] Y slices_S2x4x2x8192x64_S2x4x2x8192x16_0_0_0_0_48))⟩,
    ⟨S2x4x2x8192x16, (extractStridedSlice S2x4x2x8192x16 ![0, 0, 0, 0, 32] Y slices_S2x4x2x8192x64_S2x4x2x8192x16_0_0_0_0_32)⟩]
    concatenates_S2x4x2x8192x16_S2x4x2x8192x16_S2x4x2x8192x16_S2x4x2x8192x16_S2x4x2x8192x64_d4

/-- The rotation by the tables, the two components side by side again. -/
def turnT (Y : FVec Ideal S2x4x2x8192x64 .f32) (Z : FVec Ideal S2x4x2x8192x64 .f32) (C S : FVec Ideal S8192x64 .f32) : FVec Ideal S2x4x8192x128 .f32 :=
  shapeCast _ (transpose S2x4x8192x2x64 [0, 1, 3, 2, 4] (addf
    (mulf Y (broadcastInDim S2x4x2x8192x64 ![0, 1, 2, 3, 4] bcast_S1x1x1x8192x64_S2x4x2x8192x64_0_1_2_3_4 (broadcastInDim S1x1x1x8192x64 ![3, 4] bcast_S8192x64_S1x1x1x8192x64_3_4 C)))
    (mulf Z (broadcastInDim S2x4x2x8192x64 ![0, 1, 2, 3, 4] bcast_S1x1x1x8192x64_S2x4x2x8192x64_0_1_2_3_4 (broadcastInDim S1x1x1x8192x64 ![3, 4] bcast_S8192x64_S1x1x1x8192x64_3_4 S))))
    transposes_S2x4x2x8192x64_S2x4x8192x2x64_0_1_3_2_4) shapeCasts_S2x4x8192x2x64_S2x4x8192x128

/-- Columns of the context split into heads. -/
def pairT (X : FVec Ideal S2x256x512 .f32) : FVec Ideal S2x4x256x128 .f32 :=
  shapeCast _ (transpose S2x4x256x2x64 [0, 1, 3, 2, 4] (transpose S2x4x2x256x64 [0, 2, 3, 1, 4] (shapeCast _ X shapeCasts_S2x256x512_S2x256x4x2x64)
    transposes_S2x256x4x2x64_S2x4x2x256x64_0_2_3_1_4) transposes_S2x4x2x256x64_S2x4x256x2x64_0_1_3_2_4) shapeCasts_S2x4x256x2x64_S2x4x256x128

/-- The context after the latents. -/
def catT (L : FVec Ideal S2x4x8192x128 .f32) (C : FVec Ideal S2x4x256x128 .f32) : FVec Ideal S2x4x8448x128 .f32 :=
  concatenate S2x4x8448x128 2 [⟨S2x4x8192x128, L⟩, ⟨S2x4x256x128, C⟩] concatenates_S2x4x8192x128_S2x4x256x128_S2x4x8448x128_d2

/-- The value heads. -/
def valT (X : FVec Ideal S2x8192x512 .f32) : FVec Ideal S2x4x8192x128 .f32 :=
  transpose S2x4x8192x128 [0, 2, 1, 3] (shapeCast _ X shapeCasts_S2x8192x512_S2x8192x4x128) transposes_S2x8192x4x128_S2x4x8192x128_0_2_1_3

def valcT (X : FVec Ideal S2x256x512 .f32) : FVec Ideal S2x4x256x128 .f32 :=
  transpose S2x4x256x128 [0, 2, 1, 3] (shapeCast _ X shapeCasts_S2x256x512_S2x256x4x128) transposes_S2x256x4x128_S2x4x256x128_0_2_1_3

/-- The queries scaled, the keys and the values. -/
def allT (Q K W : FVec Ideal S2x4x8448x128 .f32) : FVec Ideal S2x12x8448x128 .bf16 :=
  truncf .bf16 (concatenate S2x12x8448x128 1 [⟨S2x4x8448x128, (mulf Q (broadcastInDim S2x4x8448x128 ![] bcast_S_S2x4x8448x128 (constant S_ .f32 0x3E38AA3B#32)))⟩,
    ⟨S2x4x8448x128, K⟩, ⟨S2x4x8448x128, W⟩] concatenates_S2x4x8448x128_S2x4x8448x128_S2x4x8448x128_S2x12x8448x128_d1 : FVec Ideal S2x12x8448x128 .f32) bitsLt_bf16_f32

/-- The two products one after the other. -/
def rowsT (PL : FVec Ideal S2x8192x4096 .f32) (PC : FVec Ideal S2x256x4096 .f32) : FVec Ideal S2x8448x4096 .f32 :=
  concatenate S2x8448x4096 1 [⟨S2x8192x4096, PL⟩, ⟨S2x256x4096, PC⟩] concatenates_S2x8192x4096_S2x256x4096_S2x8448x4096_d1

/-- The heads of the two products. -/
def headsT (PL : FVec Ideal S2x8192x4096 .f32) (PC : FVec Ideal S2x256x4096 .f32) (C S : FVec Ideal S8192x64 .f32) : FVec Ideal S2x12x8448x128 .bf16 :=
  allT
    (catT (turnT (splitT (extractStridedSlice S2x8192x512 ![0, 0, 0] PL slices_S2x8192x4096_S2x8192x512_0_0_0)) (rotT (splitT (extractStridedSlice S2x8192x512 ![0, 0, 0] PL slices_S2x8192x4096_S2x8192x512_0_0_0))) C S)
      (pairT (extractStridedSlice S2x256x512 ![0, 0, 0] PC slices_S2x256x4096_S2x256x512_0_0_0)))
    (catT (turnT (splitT (extractStridedSlice S2x8192x512 ![0, 0, 512] PL slices_S2x8192x4096_S2x8192x512_0_0_512)) (rotT (splitT (extractStridedSlice S2x8192x512 ![0, 0, 512] PL slices_S2x8192x4096_S2x8192x512_0_0_512))) C S)
      (pairT (extractStridedSlice S2x256x512 ![0, 0, 512] PC slices_S2x256x4096_S2x256x512_0_0_512)))
    (catT (valT (extractStridedSlice S2x8192x512 ![0, 0, 1024] PL slices_S2x8192x4096_S2x8192x512_0_0_1024))
      (valcT (extractStridedSlice S2x256x512 ![0, 0, 1024] PC slices_S2x256x4096_S2x256x512_0_0_1024)))

theorem latT_apply (A0 : FVec Ideal S2x8192x1024 .f32) (A2 : FVec Ideal S8x6144 .f32) (A3 : FVec Ideal S1x1024 .f32) (A4 : FVec Ideal S1x1024x4096 .f32)
    (b : Fin 2) (r : Fin 8192) (n : Fin 4096) : latT A0 A2 A3 A4 (ix3 b r n)
      = ∑ k, normed (fun k => A0 (ix3 b r k)) (fun k => A3 (ix2 0 k)) (fun k => A2 (ix2 (⟨b.val, by omega⟩ : Fin 8) (⟨1024 + k.val, by omega⟩ : Fin 6144)))
        (fun k => A2 (ix2 (⟨b.val, by omega⟩ : Fin 8) (⟨k.val, by omega⟩ : Fin 6144))) k * A4 (ix3 0 k n) := by
  pointwise [latT]
  rfl

theorem ctxT_apply (A1 : FVec Ideal S2x256x1024 .f32) (A2 : FVec Ideal S8x6144 .f32) (A3 : FVec Ideal S1x1024 .f32) (A4 : FVec Ideal S1x1024x4096 .f32)
    (b : Fin 2) (r : Fin 256) (n : Fin 4096) : ctxT A1 A2 A3 A4 (ix3 b r n)
      = ∑ k, normed (fun k => A1 (ix3 b r k)) (fun k => A3 (ix2 0 k)) (fun k => A2 (ix2 (2 : Fin 8) (⟨1024 + k.val, by omega⟩ : Fin 6144)))
        (fun k => A2 (ix2 (2 : Fin 8) (⟨k.val, by omega⟩ : Fin 6144))) k * A4 (ix3 0 k n) := by
  pointwise [ctxT]
  rfl

theorem splitT_apply (X : FVec Ideal S2x8192x512 .f32) (b : Fin 2) (h : Fin 4) (i : Fin 2) (r : Fin 8192) (d : Fin 64) :
    splitT X (ix5 b h i r d) = X (ix3 b r (⟨h.val * 128 + i.val * 64 + d.val, by omega⟩ : Fin 512)) := by
  pointwise [splitT]
  try blk_ext

theorem rotT_apply (Y : FVec Ideal S2x4x2x8192x64 .f32) (b : Fin 2) (h : Fin 4) (i : Fin 2) (r : Fin 8192) (d : Fin 64) :
    rotT Y (ix5 b h i r d) = if h' : d.val % 32 < 16 then -Y (ix5 b h i r (⟨d.val + 16, by omega⟩ : Fin 64)) else Y (ix5 b h i r (⟨d.val - 16, by omega⟩ : Fin 64)) := by
  pointwise [rotT]
  by_cases h1 : d.val < 16
  · rw [dif_pos h1, dif_pos (by omega)]
    exact congrArg (fun x => -Y (ix5 b h i r x)) (Fin.ext (Nat.add_comm 16 d.val))
  by_cases h2 : d.val < 32
  · rw [dif_neg h1, dif_pos (by omega), dif_neg (by omega)]
  by_cases h3 : d.val < 48
  · rw [dif_neg h1, dif_neg (by omega), dif_pos (by omega), dif_pos (by omega)]
    exact congrArg (fun x => -Y (ix5 b h i r x)) (Fin.ext (by show 48 + (d.val - 16 - 16) = d.val + 16; omega))
  · rw [dif_neg h1, dif_neg (by omega), dif_neg (by omega), dif_neg (by omega)]
    exact congrArg (fun x => Y (ix5 b h i r x)) (Fin.ext (by show 32 + (d.val - 16 - 16 - 16) = d.val - 16; omega))

theorem turnT_apply (Y Z : FVec Ideal S2x4x2x8192x64 .f32) (C S : FVec Ideal S8192x64 .f32) (b : Fin 2) (h : Fin 4) (r : Fin 8192) (l : Fin 128) :
    turnT Y Z C S (ix4 b h r l) = Y (ix5 b h (⟨l.val / 64, by omega⟩ : Fin 2) r (half l)) * C (ix2 r (half l))
      + Z (ix5 b h (⟨l.val / 64, by omega⟩ : Fin 2) r (half l)) * S (ix2 r (half l)) := by
  pointwise [turnT, half]
  try blk_ext

theorem pairT_apply (X : FVec Ideal S2x256x512 .f32) (b : Fin 2) (h : Fin 4) (r : Fin 256) (l : Fin 128) :
    pairT X (ix4 b h r l) = X (ix3 b r (⟨h.val * 128 + l.val, by omega⟩ : Fin 512)) := by
  pointwise [pairT]
  try blk_ext

theorem catT_apply (L : FVec Ideal S2x4x8192x128 .f32) (C : FVec Ideal S2x4x256x128 .f32) (b : Fin 2) (h : Fin 4) (r : Fin 8448) (l : Fin 128) :
    catT L C (ix4 b h r l) = if h' : r.val < 8192 then L (ix4 b h (⟨r.val, h'⟩ : Fin 8192) l) else C (ix4 b h (⟨r.val - 8192, by omega⟩ : Fin 256) l) := by
  pointwise [catT]

theorem valT_apply (X : FVec Ideal S2x8192x512 .f32) (b : Fin 2) (h : Fin 4) (r : Fin 8192) (l : Fin 128) :
    valT X (ix4 b h r l) = X (ix3 b r (⟨h.val * 128 + l.val, by omega⟩ : Fin 512)) := by
  pointwise [valT]
  try blk_ext

theorem valcT_apply (X : FVec Ideal S2x256x512 .f32) (b : Fin 2) (h : Fin 4) (r : Fin 256) (l : Fin 128) :
    valcT X (ix4 b h r l) = X (ix3 b r (⟨h.val * 128 + l.val, by omega⟩ : Fin 512)) := by
  pointwise [valcT]
  try blk_ext

theorem allT_apply (Q K W : FVec Ideal S2x4x8448x128 .f32) (b : Fin 2) (j : Fin 12) (r : Fin 8448) (l : Fin 128) :
    allT Q K W (ix4 b j r l) = if h : j.val < 4 then Q (ix4 b (⟨j.val, h⟩ : Fin 4) r l) * Ideal.ofBits .f32 0x3E38AA3B#32
      else if h : j.val - 4 < 4 then K (ix4 b (⟨j.val - 4, h⟩ : Fin 4) r l) else W (ix4 b (⟨j.val - 4 - 4, by omega⟩ : Fin 4) r l) := by
  pointwise [allT]

theorem rowsT_apply (PL : FVec Ideal S2x8192x4096 .f32) (PC : FVec Ideal S2x256x4096 .f32) (b : Fin 2) (r : Fin 8448) (n : Fin 4096) :
    rowsT PL PC (ix3 b r n) = if h' : r.val < 8192 then PL (ix3 b (⟨r.val, h'⟩ : Fin 8192) n) else PC (ix3 b (⟨r.val - 8192, by omega⟩ : Fin 256) n) := by
  pointwise [rowsT]

/-- The frequencies. -/
def freqT : FVec Ideal S16 .f32 :=
  Host.divf (broadcastInDim S16 ![] bcast_S_S16 (constant S_ .f32 0x3F800000#32)) (Host.powf (broadcastInDim S16 ![] bcast_S_S16 (constant S_ .f32 0x461C4000#32))
    (Host.divf (addf (broadcastInDim S16 ![] bcast_S_S16 (constant S_ .f32 0x00000000#32)) (mulf (broadcastInDim S16 ![] bcast_S_S16 (constant S_ .f32 0x40000000#32)) (sitofp .f32 (iotaInDim S16 32 0))))
      (broadcastInDim S16 ![] bcast_S_S16 (constant S_ .f32 0x42000000#32))))

/-- The row and the column of each position. -/
def rowT : FVec Ideal S8192 .f32 := shapeCast _ (broadcastInDim S128x64 ![0] bcast_S128_S128x64_0 (sitofp .f32 (iotaInDim S128 32 0))) shapeCasts_S128x64_S8192
def colT : FVec Ideal S8192 .f32 := shapeCast _ (broadcastInDim S128x64 ![1] bcast_S64_S128x64_1 (sitofp .f32 (iotaInDim S64 32 0))) shapeCasts_S128x64_S8192

/-- Positions times frequencies. -/
def prT (p : FVec Ideal S8192 .f32) (f : FVec Ideal S16 .f32) : FVec Ideal S8192x16 .f32 :=
  mulf (broadcastInDim S8192x16 ![0, 1] bcast_S8192x1_S8192x16_0_1 (broadcastInDim S8192x1 ![0] bcast_S8192_S8192x1_0 p)) (broadcastInDim S8192x16 ![0, 1] bcast_S1x16_S8192x16_0_1 (broadcastInDim S1x16 ![1] bcast_S16_S1x16_1 f))

/-- The angles: the rows' twice, the columns' twice. -/
def angT (a b : FVec Ideal S8192x16 .f32) : FVec Ideal S8192x64 .f32 :=
  concatenate S8192x64 1 [⟨S8192x16, a⟩, ⟨S8192x16, a⟩, ⟨S8192x16, b⟩, ⟨S8192x16, b⟩] concatenates_S8192x16_S8192x16_S8192x16_S8192x16_S8192x64_d1

/-- The tables. -/
def cosT : FVec Ideal S8192x64 .f32 := Host.cos (angT (prT rowT freqT) (prT colT freqT))
def sinT : FVec Ideal S8192x64 .f32 := Host.sin (angT (prT rowT freqT) (prT colT freqT))

theorem freqT_apply (e : Fin 16) : freqT (ix1 e) = freqE e := by
  pointwise [freqT]
  rfl

theorem rowT_apply (r : Fin 8192) : rowT (ix1 r) = FloatOps.sitofp (F := Ideal) .f32 (BitVec.ofNat 32 (r.val / 64)) := by
  pointwise [rowT]

theorem colT_apply (r : Fin 8192) : colT (ix1 r) = FloatOps.sitofp (F := Ideal) .f32 (BitVec.ofNat 32 (r.val % 64)) := by
  pointwise [colT]

theorem prT_apply (p : FVec Ideal S8192 .f32) (f : FVec Ideal S16 .f32) (r : Fin 8192) (e : Fin 16) : prT p f (ix2 r e) = p (ix1 r) * f (ix1 e) := by
  pointwise [prT]

theorem angT_apply (a b : FVec Ideal S8192x16 .f32) (r : Fin 8192) (d : Fin 64) :
    angT a b (ix2 r d) = if d.val < 32 then a (ix2 r (⟨d.val % 16, Nat.mod_lt _ (by decide)⟩ : Fin 16)) else b (ix2 r (⟨d.val % 16, Nat.mod_lt _ (by decide)⟩ : Fin 16)) := by
  pointwise [angT]
  by_cases h1 : d.val < 16
  · rw [dif_pos h1]
    refine Eq.trans ?_ (if_pos (by omega)).symm
    exact congrArg (fun x => a (ix2 r x)) (Fin.ext (by simp; try omega))
  by_cases h2 : d.val < 32
  · rw [dif_neg h1, dif_pos (by omega)]
    refine Eq.trans ?_ (if_pos h2).symm
    exact congrArg (fun x => a (ix2 r x)) (Fin.ext (by simp; try omega))
  by_cases h3 : d.val < 48
  · rw [dif_neg h1, dif_neg (by omega), dif_pos (by omega)]
    refine Eq.trans ?_ (if_neg h2).symm
    exact congrArg (fun x => b (ix2 r x)) (Fin.ext (by simp; try omega))
  · rw [dif_neg h1, dif_neg (by omega), dif_neg (by omega)]
    refine Eq.trans ?_ (if_neg h2).symm
    exact congrArg (fun x => b (ix2 r x)) (Fin.ext (by simp; try omega))

/-- The angles at an entry. -/
theorem ang_val (r : Fin 8192) (d : Fin 64) : angT (prT rowT freqT) (prT colT freqT) (ix2 r d) = angE r d := by
  rw [angT_apply, prT_apply, prT_apply, rowT_apply, colT_apply, freqT_apply]
  unfold angE
  by_cases h : d.val < 32
  · rw [if_pos h, if_pos h]
  · rw [if_neg h, if_neg h]

/-- The tables at an entry. -/
theorem cosT_val (r : Fin 8192) (d : Fin 64) : cosT (ix2 r d) = cosE r d := congrArg Ideal.cos (ang_val r d)
theorem sinT_val (r : Fin 8192) (d : Fin 64) : sinT (ix2 r d) = sinE r d := congrArg Ideal.sin (ang_val r d)

variable (m : (ℓ : Loc nD τ sig) → Buf (Elt Ideal) ℓ) (c : Dev nD)

/-- The two products of the arguments. -/
def plat : FVec Ideal S2x8192x4096 .f32 := latT (m ((c.tc : Thread nD τ).loc main_arg0)) (m ((c.tc : Thread nD τ).loc main_arg2)) (m ((c.tc : Thread nD τ).loc main_arg3)) (m ((c.tc : Thread nD τ).loc main_arg4))
def pctx : FVec Ideal S2x256x4096 .f32 := ctxT (m ((c.tc : Thread nD τ).loc main_arg1)) (m ((c.tc : Thread nD τ).loc main_arg2)) (m ((c.tc : Thread nD τ).loc main_arg3)) (m ((c.tc : Thread nD τ).loc main_arg4))

/-- The first result is these steps in turn. -/
theorem res_eq : res_main_v147 m c = headsT (plat m c) (pctx m c) cosT sinT := by
  unfold res_main_v147 headsT cosT sinT angT prT rowT colT freqT allT catT turnT rotT splitT pairT valT valcT plat pctx latT ctxT
  rfl

/-- The product of the arguments. -/
def P (b : Fin 2) (r : Fin 8448) (n : Fin 4096) : EReal :=
  projE (fun b r k => (m ((c.tc : Thread nD τ).loc main_arg0) : FVec Ideal S2x8192x1024 .f32) (ix3 b r k))
    (fun b r k => (m ((c.tc : Thread nD τ).loc main_arg1) : FVec Ideal S2x256x1024 .f32) (ix3 b r k))
    (fun a k => (m ((c.tc : Thread nD τ).loc main_arg2) : FVec Ideal S8x6144 .f32) (ix2 a k))
    (fun k => (m ((c.tc : Thread nD τ).loc main_arg3) : FVec Ideal S1x1024 .f32) (ix2 0 k))
    (fun k n => (m ((c.tc : Thread nD τ).loc main_arg4) : FVec Ideal S1x1024x4096 .f32) (ix3 0 k n)) b r n

/-- A latent row of the product. -/
theorem plat_val (b : Fin 2) (r : Fin 8448) (n : Fin 4096) (h : r.val < 8192) : plat m c (ix3 b (⟨r.val, h⟩ : Fin 8192) n) = P m c b r n := by
  refine (latT_apply _ _ _ _ b ⟨r.val, h⟩ n).trans ?_
  unfold P projE tokens modRow
  rw [dif_pos h, if_pos h]

/-- A context row of the product. -/
theorem pctx_val (b : Fin 2) (r : Fin 8448) (n : Fin 4096) (h : ¬ r.val < 8192) : pctx m c (ix3 b (⟨r.val - 8192, by omega⟩ : Fin 256) n) = P m c b r n := by
  refine (ctxT_apply _ _ _ _ b ⟨r.val - 8192, by omega⟩ n).trans ?_
  unfold P projE tokens modRow
  rw [dif_neg h, if_neg h]

/-- A row of the product. -/
theorem rows_val (b : Fin 2) (r : Fin 8448) (n : Fin 4096) : rowsT (plat m c) (pctx m c) (ix3 b r n) = P m c b r n := by
  rw [rowsT_apply]
  by_cases h : r.val < 8192
  · rw [dif_pos h]; exact plat_val m c b r n h
  · rw [dif_neg h]; exact pctx_val m c b r n h

/-- Columns of a product from an offset on. -/
theorem colL (PL : FVec Ideal S2x8192x4096 .f32) (o : Fin 3 → Nat) (hs : S2x8192x4096.Slices o S2x8192x512) (a : Nat) (ha : a + 512 ≤ 4096) (ho : o = ![0, 0, a])
    (b : Fin 2) (r : Fin 8192) (n : Fin 512) : (extractStridedSlice S2x8192x512 o PL hs : FVec Ideal S2x8192x512 .f32) (ix3 b r n) = PL (ix3 b r (⟨a + n.val, by omega⟩ : Fin 4096)) := by
  subst ho
  refine congrArg PL (funext fun x => Fin.ext ?_)
  match x with
  | 0 => simp
  | 1 => simp
  | 2 => simp

theorem colC (PC : FVec Ideal S2x256x4096 .f32) (o : Fin 3 → Nat) (hs : S2x256x4096.Slices o S2x256x512) (a : Nat) (ha : a + 512 ≤ 4096) (ho : o = ![0, 0, a])
    (b : Fin 2) (r : Fin 256) (n : Fin 512) : (extractStridedSlice S2x256x512 o PC hs : FVec Ideal S2x256x512 .f32) (ix3 b r n) = PC (ix3 b r (⟨a + n.val, by omega⟩ : Fin 4096)) := by
  subst ho
  refine congrArg PC (funext fun x => Fin.ext ?_)
  match x with
  | 0 => simp
  | 1 => simp
  | 2 => simp

/-- A turned head of the reference. -/
theorem turn_val (C S : FVec Ideal S8192x64 .f32) (XL : FVec Ideal S2x8192x512 .f32) (XC : FVec Ideal S2x256x512 .f32)
    (p : Fin 2 → Fin 8448 → Fin 4096 → EReal) (a : Nat) (ha : a < 8) (h4 : Fin 4) (ja : Fin 8) (hj : ja.val * 128 = a * 128 + h4.val * 128)
    (hL : ∀ b (r : Fin 8448) (n : Fin 512) (n' : Fin 4096) (h : r.val < 8192), n'.val = a * 128 + n.val → XL (ix3 b (⟨r.val, h⟩ : Fin 8192) n) = p b r n')
    (hC : ∀ b (r : Fin 8448) (n : Fin 512) (n' : Fin 4096) (h : ¬ r.val < 8192), n'.val = a * 128 + n.val → XC (ix3 b (⟨r.val - 8192, by omega⟩ : Fin 256) n) = p b r n')
    (b : Fin 2) (r : Fin 8448) (l : Fin 128) :
    catT (turnT (splitT XL) (rotT (splitT XL)) C S) (pairT XC) (ix4 b h4 r l) = turn p (fun r d => C (ix2 r d)) (fun r d => S (ix2 r d)) b ja r l := by
  rw [catT_apply]
  unfold turn
  have hl := l.isLt
  by_cases hr : r.val < 8192
  · rw [dif_pos hr, dif_pos hr, turnT_apply, splitT_apply, rotT_apply]
    refine congrArg₂ (fun u v : EReal => u * C (ix2 (⟨r.val, hr⟩ : Fin 8192) (half l)) + v) (hL b r _ _ hr ?_) ?_
    · show ja.val * 128 + l.val = a * 128 + (h4.val * 128 + l.val / 64 * 64 + l.val % 64)
      omega
    · unfold sgn
      by_cases hq : l.val % 32 < 16
      · rw [dif_pos (by show l.val % 64 % 32 < 16; omega), if_pos hq, splitT_apply, mul_neg_one, neg_mul, ← mul_neg]
        refine congrArg (fun u : EReal => u * -S (ix2 (⟨r.val, hr⟩ : Fin 8192) (half l))) (hL b r _ _ hr ?_)
        show ja.val * 128 + (partner l).val = a * 128 + (h4.val * 128 + l.val / 64 * 64 + (l.val % 64 + 16))
        unfold partner
        rw [if_pos hq]
        show ja.val * 128 + (l.val + 16) % 128 = _
        omega
      · rw [dif_neg (by show ¬ l.val % 64 % 32 < 16; omega), if_neg hq, splitT_apply, mul_one]
        refine congrArg (fun u : EReal => u * S (ix2 (⟨r.val, hr⟩ : Fin 8192) (half l))) (hL b r _ _ hr ?_)
        show ja.val * 128 + (partner l).val = a * 128 + (h4.val * 128 + l.val / 64 * 64 + (l.val % 64 - 16))
        unfold partner
        rw [if_neg hq]
        show ja.val * 128 + (l.val + 112) % 128 = _
        omega
  · rw [dif_neg hr, dif_neg hr, pairT_apply]
    refine hC b r _ _ hr ?_
    show ja.val * 128 + l.val = a * 128 + (h4.val * 128 + l.val)
    omega

/-- The columns of the products, by row of the array. -/
theorem xl_val (o : Fin 3 → Nat) (hs : S2x8192x4096.Slices o S2x8192x512) (a : Nat) (ha : a * 128 + 512 ≤ 4096) (ho : o = ![0, 0, a * 128])
    (b : Fin 2) (r : Fin 8448) (n : Fin 512) (n' : Fin 4096) (h : r.val < 8192) (hn : n'.val = a * 128 + n.val) :
    (extractStridedSlice S2x8192x512 o (plat m c) hs : FVec Ideal S2x8192x512 .f32) (ix3 b (⟨r.val, h⟩ : Fin 8192) n) = P m c b r n' := by
  refine (colL _ o hs (a * 128) ha ho b _ n).trans ((plat_val m c b r _ h).trans ?_)
  exact congrArg (P m c b r) (Fin.ext hn.symm)

theorem xc_val (o : Fin 3 → Nat) (hs : S2x256x4096.Slices o S2x256x512) (a : Nat) (ha : a * 128 + 512 ≤ 4096) (ho : o = ![0, 0, a * 128])
    (b : Fin 2) (r : Fin 8448) (n : Fin 512) (n' : Fin 4096) (h : ¬ r.val < 8192) (hn : n'.val = a * 128 + n.val) :
    (extractStridedSlice S2x256x512 o (pctx m c) hs : FVec Ideal S2x256x512 .f32) (ix3 b (⟨r.val - 8192, by omega⟩ : Fin 256) n) = P m c b r n' := by
  refine (colC _ o hs (a * 128) ha ho b _ n).trans ((pctx_val m c b r _ h).trans ?_)
  exact congrArg (P m c b r) (Fin.ext hn.symm)

/-- The heads of the arguments. -/
def H (b : Fin 2) (j : Fin 12) (r : Fin 8448) (l : Fin 128) : EReal :=
  heads (Ideal.ofBits .f32 0x3E38AA3B#32) (P m c) cosE sinE b j r l

/-- The first result at an entry. -/
theorem heads_val (b : Fin 2) (j : Fin 12) (r : Fin 8448) (l : Fin 128) :
    headsT (plat m c) (pctx m c) cosT sinT (ix4 b j r l) = H m c b j r l := by
  unfold headsT H heads
  rw [← show (fun r d => cosT (ix2 r d)) = cosE from funext fun r => funext fun d => cosT_val r d,
    ← show (fun r d => sinT (ix2 r d)) = sinE from funext fun r => funext fun d => sinT_val r d]
  rw [allT_apply]
  by_cases h4 : j.val < 4
  · rw [dif_pos h4, dif_pos (by omega), if_pos h4]
    refine congrArg (fun u : EReal => u * Ideal.ofBits .f32 0x3E38AA3B#32)
      (turn_val _ _ _ _ (P m c) 0 (by omega) ⟨j.val, h4⟩ ⟨j.val, by omega⟩ ?_ ?_ ?_ b r l)
    · show j.val * 128 = 0 * 128 + j.val * 128
      omega
    · exact fun b r n n' h hn => xl_val m c _ _ 0 (by omega) rfl b r n n' h hn
    · exact fun b r n n' h hn => xc_val m c _ _ 0 (by omega) rfl b r n n' h hn
  by_cases h8 : j.val < 8
  · rw [dif_neg h4, dif_pos (by omega), dif_pos h8, if_neg h4]
    refine turn_val _ _ _ _ (P m c) 4 (by omega) ⟨j.val - 4, by omega⟩ ⟨j.val, h8⟩ ?_ ?_ ?_ b r l
    · show j.val * 128 = 4 * 128 + (j.val - 4) * 128
      omega
    · exact fun b r n n' h hn => xl_val m c _ _ 4 (by omega) rfl b r n n' h hn
    · exact fun b r n n' h hn => xc_val m c _ _ 4 (by omega) rfl b r n n' h hn
  · rw [dif_neg h4, dif_neg (by omega), dif_neg h8, catT_apply]
    by_cases hr : r.val < 8192
    · rw [dif_pos hr, valT_apply]
      refine xl_val m c _ _ 8 (by omega) rfl b r _ _ hr ?_
      show j.val * 128 + l.val = 8 * 128 + ((j.val - 4 - 4) * 128 + l.val)
      omega
    · rw [dif_neg hr, valcT_apply]
      refine xc_val m c _ _ 8 (by omega) rfl b r _ _ hr ?_
      show j.val * 128 + l.val = 8 * 128 + ((j.val - 4 - 4) * 128 + l.val)
      omega

/-- The gates at an entry. -/
theorem gate_val (b : Fin 2) (r : Fin 8448) (n : Fin 1024) :
    (extractStridedSlice S2x8448x1024 ![0, 0, 1536] (rowsT (plat m c) (pctx m c)) slices_S2x8448x4096_S2x8448x1024_0_0_1536 : FVec Ideal S2x8448x1024 .f32) (ix3 b r n)
      = P m c b r ⟨1536 + n.val, by omega⟩ := by
  pointwise []
  exact rows_val m c b r _

/-- The recurrence's columns at an entry. -/
theorem rec_val (b : Fin 2) (r : Fin 8448) (n : Fin 1536) :
    (truncf .bf16 (extractStridedSlice S2x8448x1536 ![0, 0, 2560] (rowsT (plat m c) (pctx m c)) slices_S2x8448x4096_S2x8448x1536_0_0_2560 : FVec Ideal S2x8448x1536 .f32) bitsLt_bf16_f32 : FVec Ideal S2x8448x1536 .bf16) (ix3 b r n)
      = P m c b r ⟨2560 + n.val, by omega⟩ := by
  pointwise []
  exact rows_val m c b r _

end Cert.Reference2Ideal.Hand
end
-- ==== Proof.InEq.lean ====
/- The second kernel's results are the second reference's. -/
module

public import proofs.«01_k».proof.Proof.InKer
public import proofs.«01_k».proof.Proof.InRef

@[expose] public section

set_option maxRecDepth 16384

noncomputable section

namespace Cert.Reference2Ideal.Hand

open Cert.Reference2Ideal Cert.Reference2Ideal.Gen Cert.Reference2Ideal.Value Cert.InProj
open Idealize.ShloMosaic Idealize.ShloMosaic.TcCoe Idealize.SL.Sem

/-- The second reference ends with the heads, the gates and the recurrence's columns of its arguments, and its arguments unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v147) = (fun i : S2x12x8448x128.Idx => H m c (i 0) (i 1) (i 2) (i 3))
      ∧ r.2.mem ((c.tc : Thread nD τ).loc main_v148) = (fun i : S2x8448x1024.Idx => P m c (i 0) (i 1) ⟨1536 + (i 2).val, by have : (i 2).val < 1024 := (i 2).isLt; omega⟩)
      ∧ r.2.mem ((c.tc : Thread nD τ).loc main_v150) = (fun i : S2x8448x1536.Idx => P m c (i 0) (i 1) ⟨2560 + (i 2).val, by have : (i 2).val < 1536 := (i 2).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, ha⟩ := h c
    refine ⟨(h0.trans (res_eq m c)).trans (funext fun i => ?_), h1.trans (funext fun i => ?_), h2.trans (funext fun i => ?_), ha⟩
    · idx_vars i
      exact heads_val m c _ _ _ _
    · idx_vars i
      exact gate_val m c _ _ _
    · idx_vars i
      exact rec_val m c _ _ _)
    (Cert.Reference2Ideal.Value.run (F := Ideal) m ρ)

variable (m : (ℓ : Loc Cert.Kernel2Ideal.nD Cert.Kernel2Ideal.τ Cert.Kernel2Ideal.sig) → Buf (Elt Ideal) ℓ) (c : Dev Cert.Kernel2Ideal.nD)
  (m' : (ℓ : Loc nD τ sig) → Buf (Elt Ideal) ℓ)

/-- Of the same arguments, the same product. -/
theorem P_eq (h0 : m' ((c.tc : Thread nD τ).loc main_arg0) = m ((c.tc : Thread Cert.Kernel2Ideal.nD Cert.Kernel2Ideal.τ).loc Cert.Kernel2Ideal.main_arg0))
    (h1 : m' ((c.tc : Thread nD τ).loc main_arg1) = m ((c.tc : Thread Cert.Kernel2Ideal.nD Cert.Kernel2Ideal.τ).loc Cert.Kernel2Ideal.main_arg1))
    (h2 : m' ((c.tc : Thread nD τ).loc main_arg2) = m ((c.tc : Thread Cert.Kernel2Ideal.nD Cert.Kernel2Ideal.τ).loc Cert.Kernel2Ideal.main_arg2))
    (h3 : m' ((c.tc : Thread nD τ).loc main_arg3) = m ((c.tc : Thread Cert.Kernel2Ideal.nD Cert.Kernel2Ideal.τ).loc Cert.Kernel2Ideal.main_arg3))
    (h4 : m' ((c.tc : Thread nD τ).loc main_arg4) = m ((c.tc : Thread Cert.Kernel2Ideal.nD Cert.Kernel2Ideal.τ).loc Cert.Kernel2Ideal.main_arg4)) :
    P m' c = Cert.Kernel2Ideal.Hand.P m c := by
  unfold P
  rw [h0, h1, h2, h3, h4]
  rfl

/-- Of the same arguments, the same heads. -/
theorem H_eq (hP : P m' c = Cert.Kernel2Ideal.Hand.P m c) : H m' c = Cert.Kernel2Ideal.Hand.H m c := by
  unfold H
  rw [hP]
  rfl

end Cert.Reference2Ideal.Hand
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Run
public import Idealize.ShloMosaic.Adequacy
public import Idealize.ShloMosaic.Init
public import proofs.«01_k».proof.Proof.Eq
public import proofs.«01_k».proof.Proof.InEq
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run

@[expose] public section

noncomputable section

namespace Cert.Proof

open Idealize.ShloMosaic Idealize.SL.Sem

/-- The kernel as printed ends with its arguments unchanged and every counter at zero: its text is the idealized kernel's
    (`Cert.Twin`), whose run holds for any floats. -/
theorem frame_kernel : Cert.quiescent_Kernel (hKernel := Cert.Kernel.Gen.facts) := fun m ρ _ => by
  have h := Cert.KernelIdeal.Hand.frame_run (F := Bits) m ρ
  rw [← Cert.Twin.defs_eq (F := Bits), ← Cert.Twin.main_eq (F := Bits)] at h
  exact h

/-- The kernel idealized ends with its arguments unchanged and every counter at zero. -/
theorem frame_kernelIdeal : Cert.quiescent_KernelIdeal (hKernelIdeal := Cert.KernelIdeal.Gen.facts) := fun m ρ _ =>
  Cert.KernelIdeal.Hand.frame_run (F := Ideal) m ρ

/-- The reference ends with its arguments unchanged and every counter at zero. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel idealized computes the reference's result: the array its grid points write is the reference's
    (`Cert.KernelIdeal.Hand.value_eq`). -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Hand.facts) := fun m ρ m' ρ' hp ha =>
  haveI := Cert.Pre_finite.Hand.facts
  ⟨fun c => Cert.ReferenceIdeal.Value.res_main_v52 m' c,
    (θ_run Cert.KernelIdeal.defs _ _).mono
      (fun r h c => by
        obtain ⟨a0, a1, a2, a3, a4, a5, a6, a7⟩ := ha c
        exact ⟨((h.1 c).1 5).trans (Cert.KernelIdeal.Hand.value_eq m hp c m' a0 a1 a2 a3 a4 a5 a6 a7), h.2.1 c⟩)
      (θ_run_and (Cert.KernelIdeal.Hand.run_main (F := Ideal) m ρ) (Cert.KernelIdeal.Hand.frame_run (F := Ideal) m ρ)),
    Cert.ReferenceIdeal.Value.run (F := Ideal) m' ρ'⟩

/-- The second kernel as printed ends with its arguments unchanged and every counter at zero. -/
theorem frame_kernel2 : Cert.quiescent_Kernel2 (hKernel2 := Cert.Kernel2.Gen.facts) := fun m ρ _ => Cert.Kernel2.Gen.frame (F := Bits) m ρ

/-- The second kernel idealized ends with its arguments unchanged and every counter at zero. -/
theorem frame_kernel2Ideal : Cert.quiescent_Kernel2Ideal (hKernel2Ideal := Cert.Kernel2Ideal.Gen.facts) := fun m ρ _ => Cert.Kernel2Ideal.Gen.frame (F := Ideal) m ρ

/-- The second reference ends with its arguments unchanged and every counter at zero. -/
theorem frame_reference2Ideal : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The second kernel idealized computes the second reference's three results: both are the same functions of the arguments
    (`Cert.Kernel2Ideal.Hand.res7` to `res9`, `Cert.Reference2Ideal.Hand.run_values`). -/
theorem algebraic2 : Cert.algebraic_Kernel2Ideal_Reference2Ideal (hKernel2Ideal := Cert.Kernel2Ideal.Gen.facts)
    (hReference2Ideal := Cert.Reference2Ideal.Gen.facts) := fun m ρ m' ρ' _ ha =>
  ⟨fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    Cert.Kernel2Ideal.Value.run_blocks (F := Ideal) m ρ,
    (θ_run Cert.Reference2Ideal.defs _ _).mono
      (fun r h c => by
        obtain ⟨a0, a1, a2, a3, a4⟩ := ha c
        obtain ⟨h0, h1, h2, hk⟩ := h c
        have hP := Cert.Reference2Ideal.Hand.P_eq m c m' a0 a1 a2 a3 a4
        have hH := Cert.Reference2Ideal.Hand.H_eq m c m' hP
        rw [hH] at h0
        rw [hP] at h1 h2
        exact ⟨h0.trans (Cert.Kernel2Ideal.Hand.res7 m c).symm, h1.trans (Cert.Kernel2Ideal.Hand.res8 m c).symm,
          h2.trans (Cert.Kernel2Ideal.Hand.res9 m c).symm, hk⟩)
      (Cert.Reference2Ideal.Hand.run_values m' ρ')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Hand.facts,
  frame_kernel, frame_kernelIdeal, fun m ρ _ => frame_kernelIdeal m ρ trivial,
  frame_referenceIdeal, fun m ρ _ => frame_referenceIdeal m ρ trivial,
  frame_kernel2, frame_kernel2Ideal, frame_reference2Ideal, trivial, algebraic, trivial, algebraic2⟩

end Cert.Proof

end
